-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "sm_log2e" .f32 0x3E0293EE#32 (((11863283 / 134217728) * (Real.log 2)⁻¹ : ℝ) : EReal)

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S1x2048x32x128 : Shape := ⟨4, ![1, 2048, 32, 128]⟩
abbrev S32 : Shape := ⟨1, ![32]⟩
abbrev S1x2048x8x128 : Shape := ⟨4, ![1, 2048, 8, 128]⟩
abbrev S8 : Shape := ⟨1, ![8]⟩
abbrev S1x32x2048 : Shape := ⟨3, ![1, 32, 2048]⟩
abbrev S1x2048 : Shape := ⟨2, ![1, 2048]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel

variable [Facts]

def fn {F : FTy → Type} [FloatOps F] (main_arg0 : FVec F S1x2048x32x128 .fp8e4m3) (main_arg1 : FVec F S32 .f32) (main_arg2 : FVec F S1x2048x8x128 .fp8e4m3) (main_arg3 : FVec F S8 .f32) (main_arg4 : FVec F S1x2048x8x128 .fp8e4m3) (main_arg5 : FVec F S8 .f32) (main_arg6 : FVec F S1x2048x32x128 .bf16) (main_arg7 : FVec F S1x32x2048 .f32) (main_arg8 : FVec F S1x2048x32x128 .fp8e5m2) (main_arg9 : FVec F S1x2048 .f32) : IVec S_ 1 :=
  let main_cst : FVec F S_ .f32 := constant S_ .f32 0x00000000#32
  let main_v0 : FVec F S1x2048 .f32 := broadcastInDim S1x2048 ![] bcast_S_S1x2048 main_cst
  let main_v1 : IVec S1x2048 1 := cmpf .oge main_arg9 main_v0
  let main_cst_0 : FVec F S_ .f32 := constant S_ .f32 0x7F800000#32
  let main_v2 : FVec F S1x2048 .f32 := broadcastInDim S1x2048 ![] bcast_S_S1x2048 main_cst_0
  let main_v3 : IVec S1x2048 1 := cmpf .olt main_arg9 main_v2
  let main_v4 : IVec S1x2048 1 := andi main_v1 main_v3
  let main_c : IVec S_ 1 := constantI S_ 1 1#1
  let main_v5 : IVec S_ 1 := (fun x v => Host.reduce IntOp.andi x v reducesTo_S1x2048_S_d0_1 h_S_) main_v4 main_c
  main_v5
-- ==== Kernel.lean ====
abbrev S1x2048x32x128 : Shape := ⟨4, ![1, 2048, 32, 128]⟩
abbrev S32 : Shape := ⟨1, ![32]⟩
abbrev S1x2048x8x128 : Shape := ⟨4, ![1, 2048, 8, 128]⟩
abbrev S8 : Shape := ⟨1, ![8]⟩
abbrev S1x32x2048 : Shape := ⟨3, ![1, 32, 2048]⟩
abbrev S1x2048 : Shape := ⟨2, ![1, 2048]⟩
abbrev S2048x8x4x128 : Shape := ⟨4, ![2048, 8, 4, 128]⟩
abbrev S2048x8x128 : Shape := ⟨3, ![2048, 8, 128]⟩
abbrev S8x2048x128 : Shape := ⟨3, ![8, 2048, 128]⟩
abbrev S8x4x2048 : Shape := ⟨3, ![8, 4, 2048]⟩
abbrev S8x2048x4 : Shape := ⟨3, ![8, 2048, 4]⟩
abbrev S8x64x128 : Shape := ⟨3, ![8, 64, 128]⟩
abbrev S2048 : Shape := ⟨1, ![2048]⟩
abbrev S2048x4 : Shape := ⟨2, ![2048, 4]⟩
abbrev S8192 : Shape := ⟨1, ![8192]⟩
abbrev S64x128 : Shape := ⟨2, ![64, 128]⟩
abbrev S8x4 : Shape := ⟨2, ![8, 4]⟩
abbrev S8x1 : Shape := ⟨2, ![8, 1]⟩
abbrev S1x8x1x4 : Shape := ⟨4, ![1, 8, 1, 4]⟩
abbrev S1x8x2x4 : Shape := ⟨4, ![1, 8, 2, 4]⟩
abbrev S8x8 : Shape := ⟨2, ![8, 8]⟩
abbrev S8x8x1 : Shape := ⟨3, ![8, 8, 1]⟩
abbrev S8x8x128 : Shape := ⟨3, ![8, 8, 128]⟩
abbrev S1x8x128 : Shape := ⟨3, ![1, 8, 128]⟩
abbrev S1x64x128 : Shape := ⟨3, ![1, 64, 128]⟩
abbrev S2048x1x4x128 : Shape := ⟨4, ![2048, 1, 4, 128]⟩
abbrev S1x2048x128 : Shape := ⟨3, ![1, 2048, 128]⟩
abbrev S8192x128 : Shape := ⟨2, ![8192, 128]⟩
abbrev S128x8192 : Shape := ⟨2, ![128, 8192]⟩
abbrev S128x2048 : Shape := ⟨2, ![128, 2048]⟩
abbrev S1 : Shape := ⟨1, ![1]⟩
abbrev S1x1x128 : Shape := ⟨3, ![1, 1, 128]⟩
abbrev S1x128 : Shape := ⟨2, ![1, 128]⟩
abbrev S128x128 : Shape := ⟨2, ![128, 128]⟩
abbrev S32x1x4x128 : Shape := ⟨4, ![32, 1, 4, 128]⟩
abbrev S32x4x128 : Shape := ⟨3, ![32, 4, 128]⟩
abbrev S128 : Shape := ⟨1, ![128]⟩
abbrev S128x1 : Shape := ⟨2, ![128, 1]⟩
abbrev S8x128 : Shape := ⟨2, ![8, 128]⟩
abbrev S1x128x128 : Shape := ⟨3, ![1, 128, 128]⟩
abbrev S1024x128 : Shape := ⟨2, ![1024, 128]⟩
abbrev S1024x256 : Shape := ⟨2, ![1024, 256]⟩
abbrev S256x1x4x128 : Shape := ⟨4, ![256, 1, 4, 128]⟩
abbrev S256x4x128 : Shape := ⟨3, ![256, 4, 128]⟩
abbrev S1x256x128 : Shape := ⟨3, ![1, 256, 128]⟩
abbrev S256x128 : Shape := ⟨2, ![256, 128]⟩
abbrev S128x256 : Shape := ⟨2, ![128, 256]⟩
abbrev S128x1024 : Shape := ⟨2, ![128, 1024]⟩

abbrev nBuf : Space → Nat
  | .hbm => 47
  | .vmem => 32
  | .smem => 2
  | _ => 0

abbrev bufTy : (tb : Table) → Fin (tcTables nBuf tb) → BufTy
  | .hbm, ⟨0, _⟩ => ⟨S1x2048x32x128, .fp8e4m3⟩
  | .hbm, ⟨1, _⟩ => ⟨S32, .f32⟩
  | .hbm, ⟨2, _⟩ => ⟨S1x2048x8x128, .fp8e4m3⟩
  | .hbm, ⟨3, _⟩ => ⟨S8, .f32⟩
  | .hbm, ⟨4, _⟩ => ⟨S1x2048x8x128, .fp8e4m3⟩
  | .hbm, ⟨5, _⟩ => ⟨S8, .f32⟩
  | .hbm, ⟨6, _⟩ => ⟨S1x2048x32x128, .bf16⟩
  | .hbm, ⟨7, _⟩ => ⟨S1x32x2048, .f32⟩
  | .hbm, ⟨8, _⟩ => ⟨S1x2048x32x128, .fp8e5m2⟩
  | .hbm, ⟨9, _⟩ => ⟨S1x2048, .f32⟩
  | .hbm, ⟨10, _⟩ => ⟨S2048x8x4x128, .fp8e4m3⟩
  | .hbm, ⟨11, _⟩ => ⟨S2048x8x4x128, .fp8e5m2⟩
  | .hbm, ⟨12, _⟩ => ⟨S2048x8x4x128, .bf16⟩
  | .hbm, ⟨13, _⟩ => ⟨S2048x8x128, .fp8e4m3⟩
  | .hbm, ⟨14, _⟩ => ⟨S8x2048x128, .fp8e4m3⟩
  | .hbm, ⟨15, _⟩ => ⟨S2048x8x128, .fp8e4m3⟩
  | .hbm, ⟨16, _⟩ => ⟨S8x2048x128, .fp8e4m3⟩
  | .hbm, ⟨17, _⟩ => ⟨S8x4x2048, .f32⟩
  | .hbm, ⟨18, _⟩ => ⟨S8x2048x4, .f32⟩
  | .hbm, ⟨19, _⟩ => ⟨S8x64x128, .f32⟩
  | .hbm, ⟨20, _⟩ => ⟨S2048, .f32⟩
  | .hbm, ⟨21, _⟩ => ⟨S2048x4, .f32⟩
  | .hbm, ⟨22, _⟩ => ⟨S8192, .f32⟩
  | .hbm, ⟨23, _⟩ => ⟨S64x128, .f32⟩
  | .hbm, ⟨24, _⟩ => ⟨S8x4, .f32⟩
  | .hbm, ⟨25, _⟩ => ⟨S8x1, .f32⟩
  | .hbm, ⟨26, _⟩ => ⟨S8x4, .f32⟩
  | .hbm, ⟨27, _⟩ => ⟨S8x4, .f32⟩
  | .hbm, ⟨28, _⟩ => ⟨S1x8x1x4, .f32⟩
  | .hbm, ⟨29, _⟩ => ⟨S1x8x2x4, .f32⟩
  | .hbm, ⟨30, _⟩ => ⟨S8x8, .f32⟩
  | .hbm, ⟨31, _⟩ => ⟨S8x8x1, .f32⟩
  | .hbm, ⟨32, _⟩ => ⟨S8x8x128, .f32⟩
  | .hbm, ⟨33, _⟩ => ⟨S8x4, .f32⟩
  | .hbm, ⟨34, _⟩ => ⟨S1x8x1x4, .f32⟩
  | .hbm, ⟨35, _⟩ => ⟨S1x8x2x4, .f32⟩
  | .hbm, ⟨36, _⟩ => ⟨S8x8, .f32⟩
  | .hbm, ⟨37, _⟩ => ⟨S8x8x1, .f32⟩
  | .hbm, ⟨38, _⟩ => ⟨S8x8x128, .f32⟩
  | .hbm, ⟨39, _⟩ => ⟨S2048x8x4x128, .bf16⟩
  | .hbm, ⟨40, _⟩ => ⟨S8x2048x128, .bf16⟩
  | .hbm, ⟨41, _⟩ => ⟨S8x2048x128, .bf16⟩
  | .hbm, ⟨42, _⟩ => ⟨S1x2048x32x128, .bf16⟩
  | .hbm, ⟨43, _⟩ => ⟨S2048x8x128, .bf16⟩
  | .hbm, ⟨44, _⟩ => ⟨S1x2048x8x128, .bf16⟩
  | .hbm, ⟨45, _⟩ => ⟨S2048x8x128, .bf16⟩
  | .hbm, ⟨46, _⟩ => ⟨S1x2048x8x128, .bf16⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x64x128, .f32⟩
  | .local _ .vmem, ⟨5, _⟩ => ⟨S1x64x128, .f32⟩
  | .local _ .vmem, ⟨6, _⟩ => ⟨S64x128, .f32⟩
  | .local _ .vmem, ⟨7, _⟩ => ⟨S2048x1x4x128, .fp8e4m3⟩
  | .local _ .vmem, ⟨8, _⟩ => ⟨S2048x1x4x128, .fp8e4m3⟩
  | .local _ .vmem, ⟨9, _⟩ => ⟨S2048x1x4x128, .fp8e5m2⟩
  | .local _ .vmem, ⟨10, _⟩ => ⟨S2048x1x4x128, .fp8e5m2⟩
  | .local _ .vmem, ⟨11, _⟩ => ⟨S2048x1x4x128, .bf16⟩
  | .local _ .vmem, ⟨12, _⟩ => ⟨S2048x1x4x128, .bf16⟩
  | .local _ .vmem, ⟨13, _⟩ => ⟨S1x2048x128, .fp8e4m3⟩
  | .local _ .vmem, ⟨14, _⟩ => ⟨S1x2048x128, .fp8e4m3⟩
  | .local _ .vmem, ⟨15, _⟩ => ⟨S1x2048x128, .fp8e4m3⟩
  | .local _ .vmem, ⟨16, _⟩ => ⟨S1x2048x128, .fp8e4m3⟩
  | .local _ .vmem, ⟨17, _⟩ => ⟨S2048x1x4x128, .bf16⟩
  | .local _ .vmem, ⟨18, _⟩ => ⟨S2048x1x4x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S1x2048x128, .bf16⟩
  | .local _ .vmem, ⟨23, _⟩ => ⟨S8192x128, .f32⟩
  | .local _ .vmem, ⟨24, _⟩ => ⟨S8192x128, .f32⟩
  | .local _ .vmem, ⟨25, _⟩ => ⟨S8192x128, .f32⟩
  | .local _ .vmem, ⟨26, _⟩ => ⟨S128x8192, .bf16⟩
  | .local _ .vmem, ⟨27, _⟩ => ⟨S128x8192, .bf16⟩
  | .local _ .vmem, ⟨28, _⟩ => ⟨S128x2048, .bf16⟩
  | .local _ .vmem, ⟨29, _⟩ => ⟨S128x8192, .f32⟩
  | .local _ .vmem, ⟨30, _⟩ => ⟨S128x2048, .f32⟩
  | .local _ .vmem, ⟨31, _⟩ => ⟨S128x2048, .f32⟩
  | .local _ .smem, ⟨0, _⟩ => ⟨S8, .f32⟩
  | .local _ .smem, ⟨1, _⟩ => ⟨S8, .f32⟩
  | _, _ => ⟨S1x2048x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c8_i32 : BitVec 32 := 8#32
  let v3718 : BitVec 32 := Scalar.addi c0_i32 c8_i32
  let c1_i32 : BitVec 32 := 1#32
  ⟨c0_i32, v3718, c1_i32⟩
@[reducible] def k0_t2_loop (k0_t1 : Fin k0_t1_loop.trips) : Scf.Loop 32 :=
  let c0_i32_2599 : BitVec 32 := 0#32
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c0_i32_2593 : BitVec 32 := 0#32
  let v4585 : BitVec 32 := Scalar.subi v4584 c0_i32_2593
  let c1_i32_2594 : BitVec 32 := 1#32
  let c1_i32_2595 : BitVec 32 := 1#32
  let v4586 : BitVec 32 := Scalar.subi c1_i32_2594 c1_i32_2595
  let v4587 : BitVec 32 := Scalar.addi v4585 v4586
  let c1_i32_2596 : BitVec 32 := 1#32
  let v4588 : BitVec 32 := Scalar.divsi v4587 c1_i32_2596
  let v4589 : BitVec 32 := Scalar.subi v4588 c0_i32_2599
  let c1_i32_2600 : BitVec 32 := 1#32
  let v4591 : BitVec 32 := Scalar.divsi v4589 c1_i32_2600
  let v4592 : BitVec 32 := Scalar.muli v4591 c1_i32_2600
  let v4593 : BitVec 32 := Scalar.addi c0_i32_2599 v4592
  let c1_i32_2601 : BitVec 32 := 1#32
  ⟨c0_i32_2599, v4593, c1_i32_2601⟩
def k0_mult1 (k0_t1 : Fin k0_t1_loop.trips) : BitVec 32 :=
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c1024_i32_2638 : BitVec 32 := 1024#32
  let v4695 : BitVec 32 := Scalar.muli v4584 c1024_i32_2638
  v4695
def k0_mult2 (k0_t1 : Fin k0_t1_loop.trips) (k0_t2 : Fin (k0_t2_loop k0_t1).trips) : BitVec 32 :=
  let c0_i32_2598 : BitVec 32 := 0#32
  let c0_i32_2599 : BitVec 32 := 0#32
  let c1_i32_2601 : BitVec 32 := 1#32
  let arg25 : BitVec 32 := Scf.iv c0_i32_2599 c1_i32_2601 k0_t2
  let c1_i32_2597 : BitVec 32 := 1#32
  let v4693 : BitVec 32 := Scalar.muli arg25 c1_i32_2597
  let v4694 : BitVec 32 := Scalar.addi c0_i32_2598 v4693
  let c256_i32_2640 : BitVec 32 := 256#32
  let v4698 : BitVec 32 := Scalar.muli v4694 c256_i32_2640
  v4698
def k0_off2 (k0_t1 : Fin k0_t1_loop.trips) : Fin 4 → Nat :=
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c256_i32_2639 : BitVec 32 := 256#32
  let v4697 : BitVec 32 := Scalar.muli v4584 c256_i32_2639
  let v4700 : Index := Scalar.indexCast v4697
  let c0_2641 : Index := 0#32
  let c0_2642 : Index := 0#32
  let c0_2643 : Index := 0#32
  ![v4700.toNat, 0, 0, 0]
def k0_off3 (k0_t1 : Fin k0_t1_loop.trips) (k0_t2 : Fin (k0_t2_loop k0_t1).trips) : Fin 3 → Nat :=
  let c0_2647 : Index := 0#32
  let c0_i32_2598 : BitVec 32 := 0#32
  let c0_i32_2599 : BitVec 32 := 0#32
  let c1_i32_2601 : BitVec 32 := 1#32
  let arg25 : BitVec 32 := Scf.iv c0_i32_2599 c1_i32_2601 k0_t2
  let c1_i32_2597 : BitVec 32 := 1#32
  let v4693 : BitVec 32 := Scalar.muli arg25 c1_i32_2597
  let v4694 : BitVec 32 := Scalar.addi c0_i32_2598 v4693
  let c256_i32_2640 : BitVec 32 := 256#32
  let v4698 : BitVec 32 := Scalar.muli v4694 c256_i32_2640
  let v4699 : BitVec 32 := v4698
  let v4708 : Index := Scalar.indexCast v4699
  let c0_2648 : Index := 0#32
  ![0, v4708.toNat, 0]
def k0_off4 (k0_t1 : Fin k0_t1_loop.trips) : Fin 2 → Nat :=
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c1024_i32_2638 : BitVec 32 := 1024#32
  let v4695 : BitVec 32 := Scalar.muli v4584 c1024_i32_2638
  let v4696 : BitVec 32 := v4695
  let v4719 : Index := Scalar.indexCast v4696
  let c0_2653 : Index := 0#32
  ![v4719.toNat, 0]
def k0_off5 (k0_t1 : Fin k0_t1_loop.trips) (k0_t2 : Fin (k0_t2_loop k0_t1).trips) : Fin 2 → Nat :=
  let c0_2656 : Index := 0#32
  let c0_i32_2598 : BitVec 32 := 0#32
  let c0_i32_2599 : BitVec 32 := 0#32
  let c1_i32_2601 : BitVec 32 := 1#32
  let arg25 : BitVec 32 := Scf.iv c0_i32_2599 c1_i32_2601 k0_t2
  let c1_i32_2597 : BitVec 32 := 1#32
  let v4693 : BitVec 32 := Scalar.muli arg25 c1_i32_2597
  let v4694 : BitVec 32 := Scalar.addi c0_i32_2598 v4693
  let c256_i32_2640 : BitVec 32 := 256#32
  let v4698 : BitVec 32 := Scalar.muli v4694 c256_i32_2640
  let v4699 : BitVec 32 := v4698
  let v4735 : Index := Scalar.indexCast v4699
  ![0, v4735.toNat]
def k0_off6 (k0_t1 : Fin k0_t1_loop.trips) : Fin 2 → Nat :=
  let c0_2657 : Index := 0#32
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c1024_i32_2638 : BitVec 32 := 1024#32
  let v4695 : BitVec 32 := Scalar.muli v4584 c1024_i32_2638
  let v4696 : BitVec 32 := v4695
  let v4737 : Index := Scalar.indexCast v4696
  ![0, v4737.toNat]
@[reducible] def k0_t3_loop (k0_t1 : Fin k0_t1_loop.trips) : Scf.Loop 32 :=
  let c0_i32_2599 : BitVec 32 := 0#32
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c0_i32_2593 : BitVec 32 := 0#32
  let v4585 : BitVec 32 := Scalar.subi v4584 c0_i32_2593
  let c1_i32_2594 : BitVec 32 := 1#32
  let c1_i32_2595 : BitVec 32 := 1#32
  let v4586 : BitVec 32 := Scalar.subi c1_i32_2594 c1_i32_2595
  let v4587 : BitVec 32 := Scalar.addi v4585 v4586
  let c1_i32_2596 : BitVec 32 := 1#32
  let v4588 : BitVec 32 := Scalar.divsi v4587 c1_i32_2596
  let v4589 : BitVec 32 := Scalar.subi v4588 c0_i32_2599
  let c1_i32_2600 : BitVec 32 := 1#32
  let v4591 : BitVec 32 := Scalar.divsi v4589 c1_i32_2600
  let v4592 : BitVec 32 := Scalar.muli v4591 c1_i32_2600
  let v4593 : BitVec 32 := Scalar.addi c0_i32_2599 v4592
  let v4590 : BitVec 32 := Scalar.addi c0_i32_2599 v4589
  let c1_i32_2602 : BitVec 32 := 1#32
  ⟨v4593, v4590, c1_i32_2602⟩
def k0_mult3 (k0_t1 : Fin k0_t1_loop.trips) : BitVec 32 :=
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c1024_i32_2638 : BitVec 32 := 1024#32
  let v4695 : BitVec 32 := Scalar.muli v4584 c1024_i32_2638
  v4695
def k0_mult4 (k0_t1 : Fin k0_t1_loop.trips) (k0_t3 : Fin (k0_t3_loop k0_t1).trips) : BitVec 32 :=
  let c0_i32_2598 : BitVec 32 := 0#32
  let c0_i32_2599 : BitVec 32 := 0#32
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c0_i32_2593 : BitVec 32 := 0#32
  let v4585 : BitVec 32 := Scalar.subi v4584 c0_i32_2593
  let c1_i32_2594 : BitVec 32 := 1#32
  let c1_i32_2595 : BitVec 32 := 1#32
  let v4586 : BitVec 32 := Scalar.subi c1_i32_2594 c1_i32_2595
  let v4587 : BitVec 32 := Scalar.addi v4585 v4586
  let c1_i32_2596 : BitVec 32 := 1#32
  let v4588 : BitVec 32 := Scalar.divsi v4587 c1_i32_2596
  let v4589 : BitVec 32 := Scalar.subi v4588 c0_i32_2599
  let c1_i32_2600 : BitVec 32 := 1#32
  let v4591 : BitVec 32 := Scalar.divsi v4589 c1_i32_2600
  let v4592 : BitVec 32 := Scalar.muli v4591 c1_i32_2600
  let v4593 : BitVec 32 := Scalar.addi c0_i32_2599 v4592
  let c1_i32_2602 : BitVec 32 := 1#32
  let arg25 : BitVec 32 := Scf.iv v4593 c1_i32_2602 k0_t3
  let c1_i32_2597 : BitVec 32 := 1#32
  let v4693 : BitVec 32 := Scalar.muli arg25 c1_i32_2597
  let v4694 : BitVec 32 := Scalar.addi c0_i32_2598 v4693
  let c256_i32_2640 : BitVec 32 := 256#32
  let v4698 : BitVec 32 := Scalar.muli v4694 c256_i32_2640
  v4698
def k0_off7 (k0_t1 : Fin k0_t1_loop.trips) : Fin 4 → Nat :=
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c256_i32_2639 : BitVec 32 := 256#32
  let v4697 : BitVec 32 := Scalar.muli v4584 c256_i32_2639
  let v4700 : Index := Scalar.indexCast v4697
  let c0_2641 : Index := 0#32
  let c0_2642 : Index := 0#32
  let c0_2643 : Index := 0#32
  ![v4700.toNat, 0, 0, 0]
def k0_off8 (k0_t1 : Fin k0_t1_loop.trips) (k0_t3 : Fin (k0_t3_loop k0_t1).trips) : Fin 3 → Nat :=
  let c0_2647 : Index := 0#32
  let c0_i32_2598 : BitVec 32 := 0#32
  let c0_i32_2599 : BitVec 32 := 0#32
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c0_i32_2593 : BitVec 32 := 0#32
  let v4585 : BitVec 32 := Scalar.subi v4584 c0_i32_2593
  let c1_i32_2594 : BitVec 32 := 1#32
  let c1_i32_2595 : BitVec 32 := 1#32
  let v4586 : BitVec 32 := Scalar.subi c1_i32_2594 c1_i32_2595
  let v4587 : BitVec 32 := Scalar.addi v4585 v4586
  let c1_i32_2596 : BitVec 32 := 1#32
  let v4588 : BitVec 32 := Scalar.divsi v4587 c1_i32_2596
  let v4589 : BitVec 32 := Scalar.subi v4588 c0_i32_2599
  let c1_i32_2600 : BitVec 32 := 1#32
  let v4591 : BitVec 32 := Scalar.divsi v4589 c1_i32_2600
  let v4592 : BitVec 32 := Scalar.muli v4591 c1_i32_2600
  let v4593 : BitVec 32 := Scalar.addi c0_i32_2599 v4592
  let c1_i32_2602 : BitVec 32 := 1#32
  let arg25 : BitVec 32 := Scf.iv v4593 c1_i32_2602 k0_t3
  let c1_i32_2597 : BitVec 32 := 1#32
  let v4693 : BitVec 32 := Scalar.muli arg25 c1_i32_2597
  let v4694 : BitVec 32 := Scalar.addi c0_i32_2598 v4693
  let c256_i32_2640 : BitVec 32 := 256#32
  let v4698 : BitVec 32 := Scalar.muli v4694 c256_i32_2640
  let v4699 : BitVec 32 := v4698
  let v4708 : Index := Scalar.indexCast v4699
  let c0_2648 : Index := 0#32
  ![0, v4708.toNat, 0]
def k0_off9 (k0_t1 : Fin k0_t1_loop.trips) : Fin 2 → Nat :=
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c1024_i32_2638 : BitVec 32 := 1024#32
  let v4695 : BitVec 32 := Scalar.muli v4584 c1024_i32_2638
  let v4696 : BitVec 32 := v4695
  let v4719 : Index := Scalar.indexCast v4696
  let c0_2653 : Index := 0#32
  ![v4719.toNat, 0]
def k0_off10 (k0_t1 : Fin k0_t1_loop.trips) (k0_t3 : Fin (k0_t3_loop k0_t1).trips) : Fin 2 → Nat :=
  let c0_2656 : Index := 0#32
  let c0_i32_2598 : BitVec 32 := 0#32
  let c0_i32_2599 : BitVec 32 := 0#32
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c0_i32_2593 : BitVec 32 := 0#32
  let v4585 : BitVec 32 := Scalar.subi v4584 c0_i32_2593
  let c1_i32_2594 : BitVec 32 := 1#32
  let c1_i32_2595 : BitVec 32 := 1#32
  let v4586 : BitVec 32 := Scalar.subi c1_i32_2594 c1_i32_2595
  let v4587 : BitVec 32 := Scalar.addi v4585 v4586
  let c1_i32_2596 : BitVec 32 := 1#32
  let v4588 : BitVec 32 := Scalar.divsi v4587 c1_i32_2596
  let v4589 : BitVec 32 := Scalar.subi v4588 c0_i32_2599
  let c1_i32_2600 : BitVec 32 := 1#32
  let v4591 : BitVec 32 := Scalar.divsi v4589 c1_i32_2600
  let v4592 : BitVec 32 := Scalar.muli v4591 c1_i32_2600
  let v4593 : BitVec 32 := Scalar.addi c0_i32_2599 v4592
  let c1_i32_2602 : BitVec 32 := 1#32
  let arg25 : BitVec 32 := Scf.iv v4593 c1_i32_2602 k0_t3
  let c1_i32_2597 : BitVec 32 := 1#32
  let v4693 : BitVec 32 := Scalar.muli arg25 c1_i32_2597
  let v4694 : BitVec 32 := Scalar.addi c0_i32_2598 v4693
  let c256_i32_2640 : BitVec 32 := 256#32
  let v4698 : BitVec 32 := Scalar.muli v4694 c256_i32_2640
  let v4699 : BitVec 32 := v4698
  let v4735 : Index := Scalar.indexCast v4699
  ![0, v4735.toNat]
def k0_off11 (k0_t1 : Fin k0_t1_loop.trips) : Fin 2 → Nat :=
  let c0_2657 : Index := 0#32
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c1024_i32_2638 : BitVec 32 := 1024#32
  let v4695 : BitVec 32 := Scalar.muli v4584 c1024_i32_2638
  let v4696 : BitVec 32 := v4695
  let v4737 : Index := Scalar.indexCast v4696
  ![0, v4737.toNat]
def k0_mult5 (k0_t1 : Fin k0_t1_loop.trips) : BitVec 32 :=
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c1024_i32 : BitVec 32 := 1024#32
  let v4594 : BitVec 32 := Scalar.muli v4584 c1024_i32
  v4594
def k0_mult6 (k0_t1 : Fin k0_t1_loop.trips) : BitVec 32 :=
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c256_i32_2603 : BitVec 32 := 256#32
  let v4597 : BitVec 32 := Scalar.muli v4584 c256_i32_2603
  v4597
def k0_off12 (k0_t1 : Fin k0_t1_loop.trips) : Fin 4 → Nat :=
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c256_i32 : BitVec 32 := 256#32
  let v4596 : BitVec 32 := Scalar.muli v4584 c256_i32
  let v4599 : Index := Scalar.indexCast v4596
  let c0_2604 : Index := 0#32
  let c0_2605 : Index := 0#32
  let c0_2606 : Index := 0#32
  ![v4599.toNat, 0, 0, 0]
def k0_off13 (k0_t1 : Fin k0_t1_loop.trips) : Fin 3 → Nat :=
  let c0_2610 : Index := 0#32
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c256_i32_2603 : BitVec 32 := 256#32
  let v4597 : BitVec 32 := Scalar.muli v4584 c256_i32_2603
  let v4598 : BitVec 32 := v4597
  let v4607 : Index := Scalar.indexCast v4598
  let c0_2611 : Index := 0#32
  ![0, v4607.toNat, 0]
def k0_off14 (k0_t1 : Fin k0_t1_loop.trips) : Fin 2 → Nat :=
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c1024_i32 : BitVec 32 := 1024#32
  let v4594 : BitVec 32 := Scalar.muli v4584 c1024_i32
  let v4595 : BitVec 32 := v4594
  let v4618 : Index := Scalar.indexCast v4595
  let c0_2616 : Index := 0#32
  ![v4618.toNat, 0]
def k0_off15 (k0_t1 : Fin k0_t1_loop.trips) : Fin 2 → Nat :=
  let c0_2626 : Index := 0#32
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c256_i32_2603 : BitVec 32 := 256#32
  let v4597 : BitVec 32 := Scalar.muli v4584 c256_i32_2603
  let v4598 : BitVec 32 := v4597
  let v4663 : Index := Scalar.indexCast v4598
  ![0, v4663.toNat]
def k0_off16 (k0_t1 : Fin k0_t1_loop.trips) : Fin 2 → Nat :=
  let c0_2627 : Index := 0#32
  let c0_i32_2592 : BitVec 32 := 0#32
  let c0_i32 : BitVec 32 := 0#32
  let c1_i32 : BitVec 32 := 1#32
  let arg24 : BitVec 32 := Scf.iv c0_i32 c1_i32 k0_t1
  let c1_i32_2591 : BitVec 32 := 1#32
  let v4583 : BitVec 32 := Scalar.muli arg24 c1_i32_2591
  let v4584 : BitVec 32 := Scalar.addi c0_i32_2592 v4583
  let c1024_i32 : BitVec 32 := 1024#32
  let v4594 : BitVec 32 := Scalar.muli v4584 c1024_i32
  let v4595 : BitVec 32 := v4594
  let v4665 : Index := Scalar.indexCast v4595
  ![0, v4665.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1x4x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x1x4x128 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x1x4x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x1x4x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "log2e" => some (((Real.log 2)⁻¹ : ℝ) : EReal)
  | "sm_log2e" => some (((11863283 / 134217728) * (Real.log 2)⁻¹ : ℝ) : EReal)
  | _ => none
-- ==== ReferenceIdeal.lean ====
abbrev S1x2048x32x128 : Shape := ⟨4, ![1, 2048, 32, 128]⟩
abbrev S32 : Shape := ⟨1, ![32]⟩
abbrev S1x2048x8x128 : Shape := ⟨4, ![1, 2048, 8, 128]⟩
abbrev S8 : Shape := ⟨1, ![8]⟩
abbrev S1x32x2048 : Shape := ⟨3, ![1, 32, 2048]⟩
abbrev S1x2048 : Shape := ⟨2, ![1, 2048]⟩
abbrev S2048 : Shape := ⟨1, ![2048]⟩
abbrev S1x2048x1x1 : Shape := ⟨4, ![1, 2048, 1, 1]⟩
abbrev S8x4 : Shape := ⟨2, ![8, 4]⟩
abbrev S8x1 : Shape := ⟨2, ![8, 1]⟩
abbrev S_ : Shape := ⟨0, ![]⟩
abbrev S1x8x4x1x1 : Shape := ⟨5, ![1, 8, 4, 1, 1]⟩
abbrev S1x8x1x1x1 : Shape := ⟨5, ![1, 8, 1, 1, 1]⟩
abbrev S1x1x8x1x1 : Shape := ⟨5, ![1, 1, 8, 1, 1]⟩
abbrev S1x2048x8x4x128 : Shape := ⟨5, ![1, 2048, 8, 4, 128]⟩
abbrev S1x8x4x2048 : Shape := ⟨4, ![1, 8, 4, 2048]⟩
abbrev S1x8x2048x2048x4 : Shape := ⟨5, ![1, 8, 2048, 2048, 4]⟩
abbrev S1x8x4x2048x2048 : Shape := ⟨5, ![1, 8, 4, 2048, 2048]⟩
abbrev S1x1x1x2048x1 : Shape := ⟨5, ![1, 1, 1, 2048, 1]⟩
abbrev S1x8x1x2048x1 : Shape := ⟨5, ![1, 8, 1, 2048, 1]⟩
abbrev S2048x1 : Shape := ⟨2, ![2048, 1]⟩
abbrev S2048x2048 : Shape := ⟨2, ![2048, 2048]⟩
abbrev S1x8x4x2048x1 : Shape := ⟨5, ![1, 8, 4, 2048, 1]⟩
abbrev S1x8x128x4x2048 : Shape := ⟨5, ![1, 8, 128, 4, 2048]⟩
abbrev S32x1 : Shape := ⟨2, ![32, 1]⟩
abbrev S1x1x32x1 : Shape := ⟨4, ![1, 1, 32, 1]⟩
abbrev S1x2048x1x1x1 : Shape := ⟨5, ![1, 2048, 1, 1, 1]⟩
abbrev S1x8x128x2048 : Shape := ⟨4, ![1, 8, 128, 2048]⟩

abbrev nBuf : Space → Nat
  | .hbm => 96
  | .vmem => 8
  | .smem => 0
  | _ => 0

abbrev bufTy : (tb : Table) → Fin (tcTables nBuf tb) → BufTy
  | .hbm, ⟨0, _⟩ => ⟨S1x2048x32x128, .fp8e4m3⟩
  | .hbm, ⟨1, _⟩ => ⟨S32, .f32⟩
  | .hbm, ⟨2, _⟩ => ⟨S1x2048x8x128, .fp8e4m3⟩
  | .hbm, ⟨3, _⟩ => ⟨S8, .f32⟩
  | .hbm, ⟨4, _⟩ => ⟨S1x2048x8x128, .fp8e4m3⟩
  | .hbm, ⟨5, _⟩ => ⟨S8, .f32⟩
  | .hbm, ⟨6, _⟩ => ⟨S1x2048x32x128, .bf16⟩
  | .hbm, ⟨7, _⟩ => ⟨S1x32x2048, .f32⟩
  | .hbm, ⟨8, _⟩ => ⟨S1x2048x32x128, .fp8e5m2⟩
  | .hbm, ⟨9, _⟩ => ⟨S1x2048, .f32⟩
  | .hbm, ⟨10, _⟩ => ⟨S1x2048x32x128, .bf16⟩
  | .hbm, ⟨11, _⟩ => ⟨S1x2048x8x128, .bf16⟩
  | .hbm, ⟨12, _⟩ => ⟨S1x2048x8x128, .bf16⟩
  | .hbm, ⟨13, _⟩ => ⟨S1x2048x32x128, .bf16⟩
  | .hbm, ⟨14, _⟩ => ⟨S2048, .i32⟩
  | .hbm, ⟨15, _⟩ => ⟨S1x2048x32x128, .f32⟩
  | .hbm, ⟨16, _⟩ => ⟨S1x2048x1x1, .f32⟩
  | .hbm, ⟨17, _⟩ => ⟨S1x2048x32x128, .f32⟩
  | .hbm, ⟨18, _⟩ => ⟨S1x2048x32x128, .f32⟩
  | .hbm, ⟨19, _⟩ => ⟨S1x2048x32x128, .f32⟩
  | .hbm, ⟨20, _⟩ => ⟨S1x32x2048, .f32⟩
  | .hbm, ⟨21, _⟩ => ⟨S8x4, .f32⟩
  | .hbm, ⟨22, _⟩ => ⟨S8x1, .f32⟩
  | .hbm, ⟨23, _⟩ => ⟨S8x4, .f32⟩
  | .hbm, ⟨24, _⟩ => ⟨S8x4, .f32⟩
  | .hbm, ⟨25, _⟩ => ⟨S_, .f32⟩
  | .hbm, ⟨26, _⟩ => ⟨S8x4, .f32⟩
  | .hbm, ⟨27, _⟩ => ⟨S8x4, .f32⟩
  | .hbm, ⟨28, _⟩ => ⟨S1x8x4x1x1, .f32⟩
  | .hbm, ⟨29, _⟩ => ⟨S1x8x1x1x1, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S1x1x8x1x1, .f32⟩
  | .hbm, ⟨34, _⟩ => ⟨S1x2048x8x4x128, .bf16⟩
  | .hbm, ⟨35, _⟩ => ⟨S1x2048x8x4x128, .bf16⟩
  | .hbm, ⟨36, _⟩ => ⟨S1x8x4x2048, .f32⟩
  | .hbm, ⟨37, _⟩ => ⟨S1x8x4x2048, .f32⟩
  | .hbm, ⟨38, _⟩ => ⟨S1x8x2048x2048x4, .f32⟩
  | .hbm, ⟨39, _⟩ => ⟨S1x8x4x2048x2048, .f32⟩
  | .hbm, ⟨40, _⟩ => ⟨S1x8x4x2048x2048, .f32⟩
  | .hbm, ⟨41, _⟩ => ⟨S1x8x4x2048x2048, .f32⟩
  | .hbm, ⟨42, _⟩ => ⟨S1x8x2048x2048x4, .f32⟩
  | .hbm, ⟨43, _⟩ => ⟨S1x8x4x2048x2048, .f32⟩
  | .hbm, ⟨44, _⟩ => ⟨S1x1x1x2048x1, .f32⟩
  | .hbm, ⟨45, _⟩ => ⟨S1x8x1x2048x1, .f32⟩
  | .hbm, ⟨46, _⟩ => ⟨S1x8x1x2048x1, .f32⟩
  | .hbm, ⟨47, _⟩ => ⟨S1x8x1x2048x1, .f32⟩
  | .hbm, ⟨48, _⟩ => ⟨S1x8x4x2048x2048, .f32⟩
  | .hbm, ⟨49, _⟩ => ⟨S1x8x4x2048x2048, .f32⟩
  | .hbm, ⟨50, _⟩ => ⟨S1x2048, .i32⟩
  | .hbm, ⟨51, _⟩ => ⟨S2048x1, .i32⟩
  | .hbm, ⟨52, _⟩ => ⟨S2048x2048, .i32⟩
  | .hbm, ⟨53, _⟩ => ⟨S2048x2048, .i32⟩
  | .hbm, ⟨54, _⟩ => ⟨S2048x2048, .i1⟩
  | .hbm, ⟨55, _⟩ => ⟨S_, .f32⟩
  | .hbm, ⟨56, _⟩ => ⟨S_, .f32⟩
  | .hbm, ⟨57, _⟩ => ⟨S1x8x4x2048x2048, .i1⟩
  | .hbm, ⟨58, _⟩ => ⟨S1x8x4x2048x2048, .f32⟩
  | .hbm, ⟨59, _⟩ => ⟨S1x8x4x2048x2048, .f32⟩
  | .hbm, ⟨60, _⟩ => ⟨S1x8x4x2048x1, .f32⟩
  | .hbm, ⟨61, _⟩ => ⟨S1x8x4x2048x2048, .f32⟩
  | .hbm, ⟨62, _⟩ => ⟨S1x8x4x2048x2048, .f32⟩
  | .hbm, ⟨63, _⟩ => ⟨S1x8x4x2048x2048, .f32⟩
  | .hbm, ⟨64, _⟩ => ⟨S1x8x4x2048x1, .f32⟩
  | .hbm, ⟨65, _⟩ => ⟨S1x8x4x2048x2048, .f32⟩
  | .hbm, ⟨66, _⟩ => ⟨S1x8x4x2048x2048, .f32⟩
  | .hbm, ⟨67, _⟩ => ⟨S1x8x4x2048x2048, .f32⟩
  | .hbm, ⟨68, _⟩ => ⟨S1x8x4x2048x2048, .bf16⟩
  | .hbm, ⟨69, _⟩ => ⟨S1x8x128x4x2048, .f32⟩
  | .hbm, ⟨70, _⟩ => ⟨S1x2048x8x4x128, .f32⟩
  | .hbm, ⟨71, _⟩ => ⟨S1x2048x8x4x128, .f32⟩
  | .hbm, ⟨72, _⟩ => ⟨S1x2048x8x4x128, .f32⟩
  | .hbm, ⟨73, _⟩ => ⟨S1x2048x32x128, .f32⟩
  | .hbm, ⟨74, _⟩ => ⟨S1x2048x32x128, .bf16⟩
  | .hbm, ⟨75, _⟩ => ⟨S32, .bf16⟩
  | .hbm, ⟨76, _⟩ => ⟨S32x1, .bf16⟩
  | .hbm, ⟨77, _⟩ => ⟨S1x1x32x1, .bf16⟩
  | .hbm, ⟨78, _⟩ => ⟨S1x2048x32x128, .bf16⟩
  | .hbm, ⟨79, _⟩ => ⟨S1x2048x32x128, .bf16⟩
  | .hbm, ⟨80, _⟩ => ⟨S1x2048x8x4x128, .bf16⟩
  | .hbm, ⟨81, _⟩ => ⟨S1x2048, .bf16⟩
  | .hbm, ⟨82, _⟩ => ⟨S1x2048x1x1x1, .bf16⟩
  | .hbm, ⟨83, _⟩ => ⟨S1x2048x8x4x128, .bf16⟩
  | .hbm, ⟨84, _⟩ => ⟨S1x2048x8x4x128, .bf16⟩
  | .hbm, ⟨85, _⟩ => ⟨S1x8x4x2048x2048, .bf16⟩
  | .hbm, ⟨86, _⟩ => ⟨S1x8x128x2048, .f32⟩
  | .hbm, ⟨87, _⟩ => ⟨S1x2048x8x128, .f32⟩
  | .hbm, ⟨88, _⟩ => ⟨S_, .f32⟩
  | .hbm, ⟨89, _⟩ => ⟨S1x2048x8x128, .f32⟩
  | .hbm, ⟨90, _⟩ => ⟨S1x2048x8x128, .f32⟩
  | .hbm, ⟨91, _⟩ => ⟨S1x2048x8x128, .bf16⟩
  | .hbm, ⟨92, _⟩ => ⟨S1x8x4x2048x2048, .bf16⟩
  | .hbm, ⟨93, _⟩ => ⟨S1x8x128x2048, .f32⟩
  | .hbm, ⟨94, _⟩ => ⟨S1x2048x8x128, .f32⟩
  | .hbm, ⟨95, _⟩ => ⟨S1x2048x8x128, .bf16⟩
  | .local _ .vmem, ⟨0, _⟩ => ⟨S1x2048x32x128, .fp8e4m3⟩
  | .local _ .vmem, ⟨1, _⟩ => ⟨S1x2048x8x128, .fp8e4m3⟩
  | .local _ .vmem, ⟨2, _⟩ => ⟨S1x2048x8x128, .fp8e4m3⟩
  | .local _ .vmem, ⟨3, _⟩ => ⟨S1x2048x32x128, .fp8e5m2⟩
  | .local _ .vmem, ⟨4, _⟩ => ⟨S1x2048x32x128, .bf16⟩
  | .local _ .vmem, ⟨5, _⟩ => ⟨S1x2048x8x128, .bf16⟩
  | .local _ .vmem, ⟨6, _⟩ => ⟨S1x2048x8x128, .bf16⟩
  | .local _ .vmem, ⟨7, _⟩ => ⟨S1x2048x32x128, .bf16⟩
  | _, _ => ⟨S1x2048x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_1 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_2 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x2048x32x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x32x128 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048x32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048x8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048x32x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Outer.lean ====
module

public import proofs.«01_k».proof.Proof.Gen.Kernel.Loops

@[expose] public section

set_option maxRecDepth 16384
set_option maxHeartbeats 4000000

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the loop over the query blocks, at a symbolic trip: the pieces it writes into the three accumulators, as
    functions of what it finds there, found by the run. -/
@[irreducible] def trip_k0_t1 (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) :
    Σ' (L_arg21 : (BufTy.Contents (Elt F) arg21.view.ty → BufTy.Contents (Elt F) arg22.view.ty → BufTy.Contents (Elt F) arg23.view.ty → List (View.Piece (Elt F) S128x8192 .f32))) (L_arg22 : (BufTy.Contents (Elt F) arg21.view.ty → BufTy.Contents (Elt F) arg22.view.ty → BufTy.Contents (Elt F) arg23.view.ty → List (View.Piece (Elt F) S128x2048 .f32))) , { L_arg23 : (BufTy.Contents (Elt F) arg21.view.ty → BufTy.Contents (Elt F) arg22.view.ty → BufTy.Contents (Elt F) arg23.view.ty → List (View.Piece (Elt F) S128x2048 .f32)) // ∀ (E : Set ℕ) (f_arg21 : BufTy.Contents (Elt F) arg21.view.ty) (f_arg22 : BufTy.Contents (Elt F) arg22.view.ty) (f_arg23 : BufTy.Contents (Elt F) arg23.view.ty),
      Trip_k0_t2 (F := F) c arg7 arg8 arg10 arg11 arg15 arg16 arg17 arg18 arg19 arg20 arg21 arg22 arg23 X_arg7 X_arg8 X_arg10 X_arg11 X_arg15 X_arg16 X_arg17 X_arg18 X_arg19 X_arg20 f_arg21 f_arg22 f_arg23
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 k PUnit.unit)
          (fun _ => Trip_k0_t2 (F := F) c arg7 arg8 arg10 arg11 arg15 arg16 arg17 arg18 arg19 arg20 arg21 arg22 arg23 X_arg7 X_arg8 X_arg10 X_arg11 X_arg15 X_arg16 X_arg17 X_arg18 X_arg19 X_arg20 (arg21.view.writes (Elt F) f_arg21 (L_arg21 f_arg21 f_arg22 f_arg23)) (arg22.view.writes (Elt F) f_arg22 (L_arg22 f_arg21 f_arg22 f_arg23)) (arg23.view.writes (Elt F) f_arg23 (L_arg23 f_arg21 f_arg22 f_arg23))) } := by
  refine ⟨?_, ?_, ?_, fun E f_arg21 f_arg22 f_arg23 => ?run⟩
  case run =>
    unfold k0_t1_body
    simp only [k0_part3_eq_skeleton, k0_part4_eq_skeleton]
    iintro ⟨HR_arg7, HR_arg8, HR_arg10, HR_arg11, HR_arg15, HR_arg16, HR_arg17, HR_arg18, HR_arg19, HR_arg20, HW_arg21, HW_arg22, HW_arg23⟩
    sl_exec
    sl_step
    sl_close

/-- The piece lists of one trip. -/
abbrev tripL_k0_t1 (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) (f_arg21 : BufTy.Contents (Elt F) arg21.view.ty) (f_arg22 : BufTy.Contents (Elt F) arg22.view.ty) (f_arg23 : BufTy.Contents (Elt F) arg23.view.ty) : List (View.Piece (Elt F) S128x8192 .f32) × List (View.Piece (Elt F) S128x2048 .f32) × List (View.Piece (Elt F) S128x2048 .f32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k).1 f_arg21 f_arg22 f_arg23, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k).2.1 f_arg21 f_arg22 f_arg23, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k).2.2.1 f_arg21 f_arg22 f_arg23)

/-- One trip's pieces in front of the earlier ones. -/
@[irreducible] def pb_k0_t1Step (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (k : ℕ) (prev : List (View.Piece (Elt F) S128x8192 .f32) × List (View.Piece (Elt F) S128x2048 .f32) × List (View.Piece (Elt F) S128x2048 .f32)) : List (View.Piece (Elt F) S128x8192 .f32) × List (View.Piece (Elt F) S128x2048 .f32) × List (View.Piece (Elt F) S128x2048 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 ⟨k, h⟩ (arg21.view.writes (Elt F) G_arg21 prev.1) (arg22.view.writes (Elt F) G_arg22 prev.2.1) (arg23.view.writes (Elt F) G_arg23 prev.2.2)).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 ⟨k, h⟩ (arg21.view.writes (Elt F) G_arg21 prev.1) (arg22.view.writes (Elt F) G_arg22 prev.2.1) (arg23.view.writes (Elt F) G_arg23 prev.2.2)).2.1 ++ prev.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 ⟨k, h⟩ (arg21.view.writes (Elt F) G_arg21 prev.1) (arg22.view.writes (Elt F) G_arg22 prev.2.1) (arg23.view.writes (Elt F) G_arg23 prev.2.2)).2.2 ++ prev.2.2)
  else prev

/-- The pieces of the trips before `k`, last first, from the contents at loop entry. -/
def pb_k0_t1 (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) : ℕ → List (View.Piece (Elt F) S128x8192 .f32) × List (View.Piece (Elt F) S128x2048 .f32) × List (View.Piece (Elt F) S128x2048 .f32)
  | 0 => ([], [], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k)

theorem pb_k0_t1_succ (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).1) (arg22.view.writes (Elt F) G_arg22 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.1) (arg23.view.writes (Elt F) G_arg23 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.2)).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).1) (arg22.view.writes (Elt F) G_arg22 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.1) (arg23.view.writes (Elt F) G_arg23 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.2)).2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).1) (arg22.view.writes (Elt F) G_arg22 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.1) (arg23.view.writes (Elt F) G_arg23 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.2)).2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.2) := by
  rw [pb_k0_t1.eq_2]; unfold pb_k0_t1Step; exact dif_pos k.isLt

/-- The invariant before trip `k`. -/
abbrev inv_k0_t1 (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (k : ℕ) (_u : PUnit) : sProp 𝕄 :=
  iprop((arg7.view.loc (c : Thread nD τ) ↦[arg7.view.set]{fullShare} X_arg7) ∗ (arg8.view.loc (c : Thread nD τ) ↦[arg8.view.set]{fullShare} X_arg8) ∗ (arg10.view.loc (c : Thread nD τ) ↦[arg10.view.set]{fullShare} X_arg10) ∗ (arg11.view.loc (c : Thread nD τ) ↦[arg11.view.set]{fullShare} X_arg11) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (∃ f, (arg21.view.loc (c : Thread nD τ) ↦[arg21.view.set]{fullShare} f) ∗ ⌜f = arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k).1⌝) ∗ (∃ f, (arg22.view.loc (c : Thread nD τ) ↦[arg22.view.set]{fullShare} f) ∗ ⌜f = arg22.view.writes (Elt F) G_arg22 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k).2.1⌝) ∗ (∃ f, (arg23.view.loc (c : Thread nD τ) ↦[arg23.view.set]{fullShare} f) ∗ ⌜f = arg23.view.writes (Elt F) G_arg23 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k).2.2⌝))

set_option warn.classDefReducibility false in
/-- The loop over the query blocks by its invariant. -/
@[sl_loop] def loopInv_k0_t1 (𝒱 : Variants) (c : Dev nD) (bd : Option 𝒱.V) (E : Set ℕ) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23
  step k acc := by
    iintro ⟨HR_arg7, HR_arg8, HR_arg10, HR_arg11, HR_arg15, HR_arg16, HR_arg17, HR_arg18, HR_arg19, HR_arg20, ⟨%f_arg21, HW_arg21, %h_arg21⟩, ⟨%f_arg22, HW_arg22, %h_arg22⟩, ⟨%f_arg23, HW_arg23, %h_arg23⟩⟩
    iapply (wp_wand_r Idealize.ShloMosaic.frame (wpE (defs₀ (F := F)) 𝒱 (c : Thread nD τ) bd) E)
    isplitl [HR_arg7 HR_arg8 HR_arg10 HR_arg11 HR_arg15 HR_arg16 HR_arg17 HR_arg18 HR_arg19 HR_arg20 HW_arg21 HW_arg22 HW_arg23]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k).2.2.2 E f_arg21 f_arg22 f_arg23)
      isplitl [HR_arg7]; · iexact HR_arg7
      isplitl [HR_arg8]; · iexact HR_arg8
      isplitl [HR_arg10]; · iexact HR_arg10
      isplitl [HR_arg11]; · iexact HR_arg11
      isplitl [HR_arg15]; · iexact HR_arg15
      isplitl [HR_arg16]; · iexact HR_arg16
      isplitl [HR_arg17]; · iexact HR_arg17
      isplitl [HR_arg18]; · iexact HR_arg18
      isplitl [HR_arg19]; · iexact HR_arg19
      isplitl [HR_arg20]; · iexact HR_arg20
      isplitl [HW_arg21]; · iexact HW_arg21
      isplitl [HW_arg22]; · iexact HW_arg22
      iexact HW_arg23
    · iintro %_ ⟨HR_arg7, HR_arg8, HR_arg10, HR_arg11, HR_arg15, HR_arg16, HR_arg17, HR_arg18, HR_arg19, HR_arg20, HW_arg21, HW_arg22, HW_arg23⟩
      isplitl [HR_arg7]; · iexact HR_arg7
      isplitl [HR_arg8]; · iexact HR_arg8
      isplitl [HR_arg10]; · iexact HR_arg10
      isplitl [HR_arg11]; · iexact HR_arg11
      isplitl [HR_arg15]; · iexact HR_arg15
      isplitl [HR_arg16]; · iexact HR_arg16
      isplitl [HR_arg17]; · iexact HR_arg17
      isplitl [HR_arg18]; · iexact HR_arg18
      isplitl [HR_arg19]; · iexact HR_arg19
      isplitl [HR_arg20]; · iexact HR_arg20
      rw [pb_k0_t1_succ]
      isplitl [HW_arg21]
      · iexists _; isplitl [HW_arg21]; · iexact HW_arg21
        ipureintro; rw [h_arg21, h_arg22, h_arg23, ← View.writes_append]
      isplitl [HW_arg22]
      · iexists _; isplitl [HW_arg22]; · iexact HW_arg22
        ipureintro; rw [h_arg21, h_arg22, h_arg23, ← View.writes_append]
      iexists _; isplitl [HW_arg23]; · iexact HW_arg23
      ipureintro; rw [h_arg21, h_arg22, h_arg23, ← View.writes_append]

end Cert.Kernel.Hand

end
-- ==== Proof.Kernel.Body.lean ====
module

public import proofs.«01_k».proof.Proof.Kernel.Outer
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of output window 11, through which its contents are stated (`View.read_writes_of_cover`: the
    choice does not matter). -/
abbrev VO0_11 : View sig .tc .vmem S2048x1x4x128 .bf16 := (Memref.whole cc0_stg11_0 : Memref sig .tc .vmem S2048x1x4x128 .bf16).view
/-- One staging buffer of output window 12, through which its contents are stated (`View.read_writes_of_cover`: the
    choice does not matter). -/
abbrev VO0_12 : View sig .tc .vmem S1x2048x128 .bf16 := (Memref.whole cc0_stg12_0 : Memref sig .tc .vmem S1x2048x128 .bf16).view
/-- One staging buffer of output window 13, through which its contents are stated (`View.read_writes_of_cover`: the
    choice does not matter). -/
abbrev VO0_13 : View sig .tc .vmem S1x2048x128 .bf16 := (Memref.whole cc0_stg13_0 : Memref sig .tc .vmem S1x2048x128 .bf16).view
/-- Each window's current staging memref at point `t`, spelled as the pipeline passes it (`bodyAt0`), and its wholeness. -/
abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x1x4x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x1x4x128 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x1x4x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x128 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x1x4x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2048x128 .bf16 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S8192x128 .f32 := Memref.whole cc0_scratch0
abbrev scM0_1 : Memref sig .tc .vmem S8192x128 .f32 := Memref.whole cc0_scratch1
abbrev scM0_2 : Memref sig .tc .vmem S8192x128 .f32 := Memref.whole cc0_scratch2
abbrev scM0_3 : Memref sig .tc .vmem S128x8192 .bf16 := Memref.whole cc0_scratch3
abbrev scM0_4 : Memref sig .tc .vmem S128x8192 .bf16 := Memref.whole cc0_scratch4
abbrev scM0_5 : Memref sig .tc .vmem S128x2048 .bf16 := Memref.whole cc0_scratch5
abbrev scM0_6 : Memref sig .tc .vmem S128x8192 .f32 := Memref.whole cc0_scratch6
abbrev scM0_7 : Memref sig .tc .vmem S128x2048 .f32 := Memref.whole cc0_scratch7
abbrev scM0_8 : Memref sig .tc .vmem S128x2048 .f32 := Memref.whole cc0_scratch8

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

-- (the run's proof term is large: the definition's epilogue — `abstractNestedProofs` — walks it past the default budget)
set_option maxHeartbeats 8628000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) :
    Σ' (L11 : List (View.Piece (Elt F) S2048x1x4x128 .bf16)), Σ' (L12 : List (View.Piece (Elt F) S1x2048x128 .bf16)), { L13 : List (View.Piece (Elt F) S1x2048x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_gqa_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, fun E K => ?run⟩
  case run =>
    simp only [cc0_gqa_bwd_eq_skeleton]; unfold cc0_gqa_bwd_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Kernel.Hand

end
-- ==== Proof.Kernel.Frame.lean ====
module

public import proofs.«01_k».proof.Proof.Kernel.Body
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 11 tile its block (64 stores of `S32x1x4x128`, checked by the kernel's evaluation: Lib/Ring.lean `Piece.tiledL`, linear in the pieces, through a loop's `@[irreducible]` trip theorem too), so they cover it. -/
theorem cover0_A_11 (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) (y : S2048x1x4x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1 S32x1x4x128.size (by sl_kernel_rfl) y

/-- What the run leaves in output 11's staging buffer: its pieces read back over junk. -/
def out0_A_11 (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) : Vec F S2048x1x4x128 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1)

/-- The run's pieces for output 12 tile its block (16 stores of `S1x128x128`, checked by the kernel's evaluation: Lib/Ring.lean `Piece.tiledL`, linear in the pieces, through a loop's `@[irreducible]` trip theorem too), so they cover it. -/
theorem cover0_A_12 (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) (y : S1x2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 S1x128x128.size (by sl_kernel_rfl) y

/-- What the run leaves in output 12's staging buffer: its pieces read back over junk. -/
def out0_A_12 (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) : Vec F S1x2048x128 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1)

/-- The run's pieces for output 13 tile its block (16 stores of `S1x128x128`, checked by the kernel's evaluation: Lib/Ring.lean `Piece.tiledL`, linear in the pieces, through a loop's `@[irreducible]` trip theorem too), so they cover it. -/
theorem cover0_A_13 (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) (y : S1x2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1 S1x128x128.size (by sl_kernel_rfl) y

/-- What the run leaves in output 13's staging buffer: its pieces read back over junk. -/
def out0_A_13 (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) : Vec F S1x2048x128 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1)

/-! ## What the outputs hold after each point -/

/-- What the outputs' staging buffers hold after the body at point `t` (as a tuple, in window order): the run's contents at
    the point's memrefs and input blocks. -/
def outsAt0 (c : Dev nD) (t : Fin cfg0.N) : Vec F S2048x1x4x128 .bf16 × Vec F S1x2048x128 .bf16 × Vec F S1x2048x128 .bf16 :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2.1
    | ⟨13, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2.1 := by dsimp only [dats]
theorem after0_13 (c : Dev nD) (t : Fin cfg0.N) : (dats m 0 c).after 13 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  unfold outsAt0
  unfold out0_A_11 out0_A_12 out0_A_13; (try dsimp only)
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, ⟨%e11, H11⟩, ⟨%e12, H12⟩, ⟨%e13, H13⟩, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      iexact HS8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Hand

end
-- ==== Proof.KernelIdeal.Outer.lean ====
module

public import proofs.«01_k».proof.Proof.Gen.KernelIdeal.Loops

@[expose] public section

set_option maxRecDepth 16384
set_option maxHeartbeats 4000000

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- One trip of the loop over the query blocks, at a symbolic trip: the pieces it writes into the three accumulators, as
    functions of what it finds there, found by the run. -/
@[irreducible] def trip_k0_t1 (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) :
    Σ' (L_arg21 : (BufTy.Contents (Elt F) arg21.view.ty → BufTy.Contents (Elt F) arg22.view.ty → BufTy.Contents (Elt F) arg23.view.ty → List (View.Piece (Elt F) S128x8192 .f32))) (L_arg22 : (BufTy.Contents (Elt F) arg21.view.ty → BufTy.Contents (Elt F) arg22.view.ty → BufTy.Contents (Elt F) arg23.view.ty → List (View.Piece (Elt F) S128x2048 .f32))) , { L_arg23 : (BufTy.Contents (Elt F) arg21.view.ty → BufTy.Contents (Elt F) arg22.view.ty → BufTy.Contents (Elt F) arg23.view.ty → List (View.Piece (Elt F) S128x2048 .f32)) // ∀ (E : Set ℕ) (f_arg21 : BufTy.Contents (Elt F) arg21.view.ty) (f_arg22 : BufTy.Contents (Elt F) arg22.view.ty) (f_arg23 : BufTy.Contents (Elt F) arg23.view.ty),
      Trip_k0_t2 (F := F) c arg7 arg8 arg10 arg11 arg15 arg16 arg17 arg18 arg19 arg20 arg21 arg22 arg23 X_arg7 X_arg8 X_arg10 X_arg11 X_arg15 X_arg16 X_arg17 X_arg18 X_arg19 X_arg20 f_arg21 f_arg22 f_arg23
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 k PUnit.unit)
          (fun _ => Trip_k0_t2 (F := F) c arg7 arg8 arg10 arg11 arg15 arg16 arg17 arg18 arg19 arg20 arg21 arg22 arg23 X_arg7 X_arg8 X_arg10 X_arg11 X_arg15 X_arg16 X_arg17 X_arg18 X_arg19 X_arg20 (arg21.view.writes (Elt F) f_arg21 (L_arg21 f_arg21 f_arg22 f_arg23)) (arg22.view.writes (Elt F) f_arg22 (L_arg22 f_arg21 f_arg22 f_arg23)) (arg23.view.writes (Elt F) f_arg23 (L_arg23 f_arg21 f_arg22 f_arg23))) } := by
  refine ⟨?_, ?_, ?_, fun E f_arg21 f_arg22 f_arg23 => ?run⟩
  case run =>
    unfold k0_t1_body
    simp only [k0_part3_eq_skeleton, k0_part4_eq_skeleton]
    iintro ⟨HR_arg7, HR_arg8, HR_arg10, HR_arg11, HR_arg15, HR_arg16, HR_arg17, HR_arg18, HR_arg19, HR_arg20, HW_arg21, HW_arg22, HW_arg23⟩
    sl_exec
    sl_step
    sl_close

/-- The piece lists of one trip. -/
abbrev tripL_k0_t1 (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (k : Fin k0_t1_loop.trips) (f_arg21 : BufTy.Contents (Elt F) arg21.view.ty) (f_arg22 : BufTy.Contents (Elt F) arg22.view.ty) (f_arg23 : BufTy.Contents (Elt F) arg23.view.ty) : List (View.Piece (Elt F) S128x8192 .f32) × List (View.Piece (Elt F) S128x2048 .f32) × List (View.Piece (Elt F) S128x2048 .f32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k).1 f_arg21 f_arg22 f_arg23, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k).2.1 f_arg21 f_arg22 f_arg23, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k).2.2.1 f_arg21 f_arg22 f_arg23)

/-- One trip's pieces in front of the earlier ones. -/
@[irreducible] def pb_k0_t1Step (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (k : ℕ) (prev : List (View.Piece (Elt F) S128x8192 .f32) × List (View.Piece (Elt F) S128x2048 .f32) × List (View.Piece (Elt F) S128x2048 .f32)) : List (View.Piece (Elt F) S128x8192 .f32) × List (View.Piece (Elt F) S128x2048 .f32) × List (View.Piece (Elt F) S128x2048 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 ⟨k, h⟩ (arg21.view.writes (Elt F) G_arg21 prev.1) (arg22.view.writes (Elt F) G_arg22 prev.2.1) (arg23.view.writes (Elt F) G_arg23 prev.2.2)).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 ⟨k, h⟩ (arg21.view.writes (Elt F) G_arg21 prev.1) (arg22.view.writes (Elt F) G_arg22 prev.2.1) (arg23.view.writes (Elt F) G_arg23 prev.2.2)).2.1 ++ prev.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 ⟨k, h⟩ (arg21.view.writes (Elt F) G_arg21 prev.1) (arg22.view.writes (Elt F) G_arg22 prev.2.1) (arg23.view.writes (Elt F) G_arg23 prev.2.2)).2.2 ++ prev.2.2)
  else prev

/-- The pieces of the trips before `k`, last first, from the contents at loop entry. -/
def pb_k0_t1 (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) : ℕ → List (View.Piece (Elt F) S128x8192 .f32) × List (View.Piece (Elt F) S128x2048 .f32) × List (View.Piece (Elt F) S128x2048 .f32)
  | 0 => ([], [], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k)

theorem pb_k0_t1_succ (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).1) (arg22.view.writes (Elt F) G_arg22 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.1) (arg23.view.writes (Elt F) G_arg23 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.2)).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).1) (arg22.view.writes (Elt F) G_arg22 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.1) (arg23.view.writes (Elt F) G_arg23 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.2)).2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k (arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).1) (arg22.view.writes (Elt F) G_arg22 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.1) (arg23.view.writes (Elt F) G_arg23 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.2)).2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k.val).2.2) := by
  rw [pb_k0_t1.eq_2]; unfold pb_k0_t1Step; exact dif_pos k.isLt

/-- The invariant before trip `k`. -/
abbrev inv_k0_t1 (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) (k : ℕ) (_u : PUnit) : sProp 𝕄 :=
  iprop((arg7.view.loc (c : Thread nD τ) ↦[arg7.view.set]{fullShare} X_arg7) ∗ (arg8.view.loc (c : Thread nD τ) ↦[arg8.view.set]{fullShare} X_arg8) ∗ (arg10.view.loc (c : Thread nD τ) ↦[arg10.view.set]{fullShare} X_arg10) ∗ (arg11.view.loc (c : Thread nD τ) ↦[arg11.view.set]{fullShare} X_arg11) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (arg18.view.loc (c : Thread nD τ) ↦[arg18.view.set]{fullShare} X_arg18) ∗ (arg19.view.loc (c : Thread nD τ) ↦[arg19.view.set]{fullShare} X_arg19) ∗ (arg20.view.loc (c : Thread nD τ) ↦[arg20.view.set]{fullShare} X_arg20) ∗ (∃ f, (arg21.view.loc (c : Thread nD τ) ↦[arg21.view.set]{fullShare} f) ∗ ⌜f = arg21.view.writes (Elt F) G_arg21 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k).1⌝) ∗ (∃ f, (arg22.view.loc (c : Thread nD τ) ↦[arg22.view.set]{fullShare} f) ∗ ⌜f = arg22.view.writes (Elt F) G_arg22 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k).2.1⌝) ∗ (∃ f, (arg23.view.loc (c : Thread nD τ) ↦[arg23.view.set]{fullShare} f) ∗ ⌜f = arg23.view.writes (Elt F) G_arg23 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23 k).2.2⌝))

set_option warn.classDefReducibility false in
/-- The loop over the query blocks by its invariant. -/
@[sl_loop] def loopInv_k0_t1 (𝒱 : Variants) (c : Dev nD) (bd : Option 𝒱.V) (E : Set ℕ) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole) (v3707 : FVec F S128x2048 .f32) (v3712 : Vec F S1x8x128 .f32) (X_arg7 : BufTy.Contents (Elt F) arg7.view.ty) (X_arg8 : BufTy.Contents (Elt F) arg8.view.ty) (X_arg10 : BufTy.Contents (Elt F) arg10.view.ty) (X_arg11 : BufTy.Contents (Elt F) arg11.view.ty) (X_arg15 : BufTy.Contents (Elt F) arg15.view.ty) (X_arg16 : BufTy.Contents (Elt F) arg16.view.ty) (X_arg17 : BufTy.Contents (Elt F) arg17.view.ty) (X_arg18 : BufTy.Contents (Elt F) arg18.view.ty) (X_arg19 : BufTy.Contents (Elt F) arg19.view.ty) (X_arg20 : BufTy.Contents (Elt F) arg20.view.ty) (G_arg21 : BufTy.Contents (Elt F) arg21.view.ty) (G_arg22 : BufTy.Contents (Elt F) arg22.view.ty) (G_arg23 : BufTy.Contents (Elt F) arg23.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 G_arg21 G_arg22 G_arg23
  step k acc := by
    iintro ⟨HR_arg7, HR_arg8, HR_arg10, HR_arg11, HR_arg15, HR_arg16, HR_arg17, HR_arg18, HR_arg19, HR_arg20, ⟨%f_arg21, HW_arg21, %h_arg21⟩, ⟨%f_arg22, HW_arg22, %h_arg22⟩, ⟨%f_arg23, HW_arg23, %h_arg23⟩⟩
    iapply (wp_wand_r Idealize.ShloMosaic.frame (wpE (defs₀ (F := F)) 𝒱 (c : Thread nD τ) bd) E)
    isplitl [HR_arg7 HR_arg8 HR_arg10 HR_arg11 HR_arg15 HR_arg16 HR_arg17 HR_arg18 HR_arg19 HR_arg20 HW_arg21 HW_arg22 HW_arg23]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X_arg7 X_arg8 X_arg10 X_arg11 X_arg15 X_arg16 X_arg17 X_arg18 X_arg19 X_arg20 k).2.2.2 E f_arg21 f_arg22 f_arg23)
      isplitl [HR_arg7]; · iexact HR_arg7
      isplitl [HR_arg8]; · iexact HR_arg8
      isplitl [HR_arg10]; · iexact HR_arg10
      isplitl [HR_arg11]; · iexact HR_arg11
      isplitl [HR_arg15]; · iexact HR_arg15
      isplitl [HR_arg16]; · iexact HR_arg16
      isplitl [HR_arg17]; · iexact HR_arg17
      isplitl [HR_arg18]; · iexact HR_arg18
      isplitl [HR_arg19]; · iexact HR_arg19
      isplitl [HR_arg20]; · iexact HR_arg20
      isplitl [HW_arg21]; · iexact HW_arg21
      isplitl [HW_arg22]; · iexact HW_arg22
      iexact HW_arg23
    · iintro %_ ⟨HR_arg7, HR_arg8, HR_arg10, HR_arg11, HR_arg15, HR_arg16, HR_arg17, HR_arg18, HR_arg19, HR_arg20, HW_arg21, HW_arg22, HW_arg23⟩
      isplitl [HR_arg7]; · iexact HR_arg7
      isplitl [HR_arg8]; · iexact HR_arg8
      isplitl [HR_arg10]; · iexact HR_arg10
      isplitl [HR_arg11]; · iexact HR_arg11
      isplitl [HR_arg15]; · iexact HR_arg15
      isplitl [HR_arg16]; · iexact HR_arg16
      isplitl [HR_arg17]; · iexact HR_arg17
      isplitl [HR_arg18]; · iexact HR_arg18
      isplitl [HR_arg19]; · iexact HR_arg19
      isplitl [HR_arg20]; · iexact HR_arg20
      rw [pb_k0_t1_succ]
      isplitl [HW_arg21]
      · iexists _; isplitl [HW_arg21]; · iexact HW_arg21
        ipureintro; rw [h_arg21, h_arg22, h_arg23, ← View.writes_append]
      isplitl [HW_arg22]
      · iexists _; isplitl [HW_arg22]; · iexact HW_arg22
        ipureintro; rw [h_arg21, h_arg22, h_arg23, ← View.writes_append]
      iexists _; isplitl [HW_arg23]; · iexact HW_arg23
      ipureintro; rw [h_arg21, h_arg22, h_arg23, ← View.writes_append]

end Cert.KernelIdeal.Hand

end
-- ==== Proof.KernelIdeal.Body.lean ====
module

public import proofs.«01_k».proof.Proof.KernelIdeal.Outer
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- One staging buffer of output window 11, through which its contents are stated (`View.read_writes_of_cover`: the
    choice does not matter). -/
abbrev VO0_11 : View sig .tc .vmem S2048x1x4x128 .bf16 := (Memref.whole cc0_stg11_0 : Memref sig .tc .vmem S2048x1x4x128 .bf16).view
/-- One staging buffer of output window 12, through which its contents are stated (`View.read_writes_of_cover`: the
    choice does not matter). -/
abbrev VO0_12 : View sig .tc .vmem S1x2048x128 .bf16 := (Memref.whole cc0_stg12_0 : Memref sig .tc .vmem S1x2048x128 .bf16).view
/-- One staging buffer of output window 13, through which its contents are stated (`View.read_writes_of_cover`: the
    choice does not matter). -/
abbrev VO0_13 : View sig .tc .vmem S1x2048x128 .bf16 := (Memref.whole cc0_stg13_0 : Memref sig .tc .vmem S1x2048x128 .bf16).view
/-- Each window's current staging memref at point `t`, spelled as the pipeline passes it (`bodyAt0`), and its wholeness. -/
abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x1x4x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x1x4x128 .fp8e5m2 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x1x4x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x128 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x128 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x1x4x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2048x128 .bf16 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S8192x128 .f32 := Memref.whole cc0_scratch0
abbrev scM0_1 : Memref sig .tc .vmem S8192x128 .f32 := Memref.whole cc0_scratch1
abbrev scM0_2 : Memref sig .tc .vmem S8192x128 .f32 := Memref.whole cc0_scratch2
abbrev scM0_3 : Memref sig .tc .vmem S128x8192 .bf16 := Memref.whole cc0_scratch3
abbrev scM0_4 : Memref sig .tc .vmem S128x8192 .bf16 := Memref.whole cc0_scratch4
abbrev scM0_5 : Memref sig .tc .vmem S128x2048 .bf16 := Memref.whole cc0_scratch5
abbrev scM0_6 : Memref sig .tc .vmem S128x8192 .f32 := Memref.whole cc0_scratch6
abbrev scM0_7 : Memref sig .tc .vmem S128x2048 .f32 := Memref.whole cc0_scratch7
abbrev scM0_8 : Memref sig .tc .vmem S128x2048 .f32 := Memref.whole cc0_scratch8

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

-- (the run's proof term is large: the definition's epilogue — `abstractNestedProofs` — walks it past the default budget)
set_option maxHeartbeats 8628000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) :
    Σ' (L11 : List (View.Piece (Elt F) S2048x1x4x128 .bf16)), Σ' (L12 : List (View.Piece (Elt F) S1x2048x128 .bf16)), { L13 : List (View.Piece (Elt F) S1x2048x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_gqa_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, fun E K => ?run⟩
  case run =>
    simp only [cc0_gqa_bwd_eq_skeleton]; unfold cc0_gqa_bwd_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.KernelIdeal.Hand

end
-- ==== Proof.KernelIdeal.Frame.lean ====
module

public import proofs.«01_k».proof.Proof.KernelIdeal.Body
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 11 tile its block (64 stores of `S32x1x4x128`, checked by the kernel's evaluation: Lib/Ring.lean `Piece.tiledL`, linear in the pieces, through a loop's `@[irreducible]` trip theorem too), so they cover it. -/
theorem cover0_A_11 (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) (y : S2048x1x4x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1 S32x1x4x128.size (by sl_kernel_rfl) y

/-- What the run leaves in output 11's staging buffer: its pieces read back over junk. -/
def out0_A_11 (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) : Vec F S2048x1x4x128 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1)

/-- The run's pieces for output 12 tile its block (16 stores of `S1x128x128`, checked by the kernel's evaluation: Lib/Ring.lean `Piece.tiledL`, linear in the pieces, through a loop's `@[irreducible]` trip theorem too), so they cover it. -/
theorem cover0_A_12 (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) (y : S1x2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1 S1x128x128.size (by sl_kernel_rfl) y

/-- What the run leaves in output 12's staging buffer: its pieces read back over junk. -/
def out0_A_12 (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) : Vec F S1x2048x128 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1)

/-- The run's pieces for output 13 tile its block (16 stores of `S1x128x128`, checked by the kernel's evaluation: Lib/Ring.lean `Piece.tiledL`, linear in the pieces, through a loop's `@[irreducible]` trip theorem too), so they cover it. -/
theorem cover0_A_13 (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) (y : S1x2048x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1 S1x128x128.size (by sl_kernel_rfl) y

/-- What the run leaves in output 13's staging buffer: its pieces read back over junk. -/
def out0_A_13 (c : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
    (x0 : Vec F S8 .f32) (x1 : Vec F S8 .f32) (x2 : Vec F S1x8x128 .f32) (x3 : Vec F S1x8x128 .f32) (x4 : Vec F S1x64x128 .f32) (x5 : Vec F S64x128 .f32) (x6 : Vec F S2048x1x4x128 .fp8e4m3) (x7 : Vec F S2048x1x4x128 .fp8e5m2) (x8 : Vec F S2048x1x4x128 .bf16) (x9 : Vec F S1x2048x128 .fp8e4m3) (x10 : Vec F S1x2048x128 .fp8e4m3) : Vec F S1x2048x128 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1)

/-! ## What the outputs hold after each point -/

/-- What the outputs' staging buffers hold after the body at point `t` (as a tuple, in window order): the run's contents at
    the point's memrefs and input blocks. -/
def outsAt0 (c : Dev nD) (t : Fin cfg0.N) : Vec F S2048x1x4x128 .bf16 × Vec F S1x2048x128 .bf16 × Vec F S1x2048x128 .bf16 :=
  (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t).1
    | ⟨12, _⟩ => (outsAt0 m c t).2.1
    | ⟨13, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t).1 := by dsimp only [dats]
theorem after0_12 (c : Dev nD) (t : Fin cfg0.N) : (dats m 0 c).after 12 t = (outsAt0 m c t).2.1 := by dsimp only [dats]
theorem after0_13 (c : Dev nD) (t : Fin cfg0.N) : (dats m 0 c).after 13 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  unfold outsAt0
  unfold out0_A_11 out0_A_12 out0_A_13; (try dsimp only)
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, ⟨%e11, H11⟩, ⟨%e12, H12⟩, ⟨%e13, H13⟩, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      iexact HS8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Hand

end
-- ==== Proof.Claims.lean ====
/- The three frames and the naming of the constants: every claim but the one on the values. -/
module

public import proofs.«01_k».proof.Defs
public import proofs.«01_k».proof.Proof.Kernel.Frame
public import proofs.«01_k».proof.Proof.KernelIdeal.Frame
public import proofs.«01_k».proof.Proof.Gen.ReferenceIdeal.Frame

@[expose] public section

noncomputable section

namespace Cert.Proof

open Idealize.ShloMosaic Idealize.SL.Sem

/-- The kernel runs, leaves its arguments as they were and its counters at zero. -/
theorem frame_p : Cert.quiescent_Kernel (hKernel := Cert.Kernel.Gen.facts) :=
  fun m g _ => Cert.Kernel.Hand.frame m g

/-- So does the kernel with its constants named. -/
theorem frame_pi : Cert.quiescent_KernelIdeal (hKernelIdeal := Cert.KernelIdeal.Gen.facts) :=
  fun m g _ => Cert.KernelIdeal.Hand.frame m g

/-- So does the reference. -/
theorem frame_ri : Cert.quiescent_ReferenceIdeal (hReferenceIdeal := Cert.ReferenceIdeal.Gen.facts) :=
  fun m g _ => Cert.ReferenceIdeal.Gen.frame m g

/-- The two named constants are the roundings of the reals they are named after. -/
theorem preserves : Cert.preserves_Kernel_KernelIdeal :=
  ⟨IdealRules.named_const.statement Cert.KernelIdeal.κ "log2e" .f32 0x3FB8AA3B#32 _ rfl,
    IdealRules.named_const.statement Cert.KernelIdeal.κ "sm_log2e" .f32 0x3E0293EE#32 _ rfl⟩

end Cert.Proof

end
-- ==== Proof.Value.Scalar.lean ====
/- Facts on extended reals: the named constants, the exponential of base two, products with minus infinity. -/
module

public import Idealize.ShloMosaic.PureOps.Ideal
public import Idealize.ShloMosaic.Lib.Pointwise

@[expose] public section

namespace Cert.Value

open Idealize.ShloMosaic
open scoped BigOperators

/-- The reciprocal of the natural logarithm of two, as an extended real. -/
noncomputable abbrev L2 : EReal := (((Real.log 2)⁻¹ : ℝ) : EReal)

theorem log2_pos : (0 : ℝ) < (Real.log 2)⁻¹ := inv_pos.mpr (Real.log_pos (by norm_num))

theorem L2_nonneg : (0 : EReal) ≤ L2 := EReal.coe_nonneg.mpr log2_pos.le
theorem L2_ne_top : L2 ≠ ⊤ := EReal.coe_ne_top _

/-- The power of two of a value over log 2 is its exponential, on all extended reals. -/
theorem exp2_L2 (x : EReal) : Ideal.exp2 (x * L2) = Ideal.exp x := by
  induction x using EReal.rec with
  | bot => rw [EReal.bot_mul_coe_of_pos log2_pos]; rfl
  | top => rw [EReal.top_mul_coe_of_pos log2_pos]; rfl
  | coe r =>
    rw [← EReal.coe_mul, Ideal.exp2_coe, Ideal.exp_coe]
    congr 1
    show (2 : ℝ) ^ (r * (Real.log 2)⁻¹) = _
    rw [Real.rpow_def_of_pos (by norm_num)]
    congr 1
    have : Real.log 2 ≠ 0 := (Real.log_pos (by norm_num)).ne'
    field_simp

/-- A difference of two multiples of a finite nonnegative number. -/
theorem sub_mul_of_finite (a b c : EReal) (h0 : 0 ≤ c) (h : c ≠ ⊤) : a * c - b * c = (a - b) * c := by
  rw [sub_eq_add_neg, sub_eq_add_neg, ← EReal.neg_mul, EReal.right_distrib_of_nonneg_of_ne_top h0 h]

/-- The kernel's exponent, in powers of two with log2(e) folded into both terms, is the reference's. -/
theorem exp2_score (s c sm l : EReal) : Ideal.exp2 (s * (c * (sm * L2)) - l * L2) = Ideal.exp (s * (c * sm) - l) := by
  rw [← exp2_L2, ← sub_mul_of_finite _ _ _ L2_nonneg L2_ne_top]
  simp only [mul_assoc]

/-- A finite nonnegative factor moves into a sum. -/
theorem mul_sum_of_finite {ι : Type} (S : Finset ι) (f : ι → EReal) (c : EReal) (h0 : 0 ≤ c) (h : c ≠ ⊤) :
    c * ∑ i ∈ S, f i = ∑ i ∈ S, c * f i := by
  classical
  induction S using Finset.induction_on with
  | empty => simp
  | insert a S ha ih => rw [Finset.sum_insert ha, Finset.sum_insert ha, EReal.left_distrib_of_nonneg_of_ne_top h0 h, ih]

/-- The row constant of the softmax gradient: the scale of a token's `do` may be taken in front of the sum. -/
theorem delta_eq {n : ℕ} (c : EReal) (x y : Fin n → EReal) (h0 : 0 ≤ c) (h : c ≠ ⊤) :
    c * ∑ d, x d * y d = ∑ d, x d * c * y d := by
  rw [mul_sum_of_finite _ _ _ h0 h]
  exact Finset.sum_congr rfl fun d _ => by rw [← mul_assoc, mul_comm c]

/-- The constant log2(e) / sqrt(128) as the certificate names it, from the f32 factor 1 / sqrt(128). -/
theorem sm_log2e_eq : (((11863283 / 134217728) * (Real.log 2)⁻¹ : ℝ) : EReal) = Ideal.ofBits .f32 0x3DB504F3#32 * L2 := by
  have : Ideal.ofBits .f32 0x3DB504F3#32 = ((11863283 / 134217728 : ℝ) : EReal) := by
    simp [Ideal.ofBits, Ideal.ieee, -EReal.coe_mul]; norm_num
  rw [this, ← EReal.coe_mul]

/-- The f32 pattern of minus infinity. -/
theorem ofBits_ninf : Ideal.ofBits .f32 0xFF800000#32 = ⊥ := by
  simp [Ideal.ofBits, Ideal.ieee]

theorem bot_sub (x : EReal) : ⊥ - x = ⊥ := by rw [sub_eq_add_neg, EReal.bot_add]

end Cert.Value

end
-- ==== Proof.Value.Pay.lean ====
/- The named payloads of the kernel's body read at one index. -/
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.Value

open Cert.KernelIdeal Cert.KernelIdeal.Gen
open Idealize.ShloMosaic
open scoped BigOperators

/-- The softmax probability of one tile entry, from the blocks loaded for the tile. -/
def pT (coef : FVec Ideal S1024x256 .f32) (q : Vec Ideal S256x1x4x128 .fp8e4m3) (k : Vec Ideal S1x256x128 .fp8e4m3)
    (lse : Vec Ideal S1024x128 .f32) (r : Fin 1024) (s : Fin 256) : EReal :=
  Ideal.exp2 ((∑ d : Fin 128, q (ix4 ⟨r.val / 4, by omega⟩ 0 ⟨r.val % 4, by omega⟩ d) * k (ix3 0 s d)) * coef (ix2 r s)
    - lse (ix2 r ⟨s.val % 128, by omega⟩))

/-- The other factor of the score gradient at one tile entry. -/
def gT (g : Vec Ideal S256x1x4x128 .fp8e5m2) (v : Vec Ideal S1x256x128 .fp8e4m3)
    (dos delta : Vec Ideal S1024x128 .f32) (r : Fin 1024) (s : Fin 256) : EReal :=
  (∑ d : Fin 128, g (ix4 ⟨r.val / 4, by omega⟩ 0 ⟨r.val % 4, by omega⟩ d) * v (ix3 0 s d)) * dos (ix2 r ⟨s.val % 128, by omega⟩)
    - delta (ix2 r ⟨s.val % 128, by omega⟩)

/-- A pair of copies side by side repeats with the period of one. -/
theorem twice_apply (x : S1024x128.Idx → EReal) (h) (r : Fin 1024) (s : Fin 256) :
    concatenate S1024x256 1 [⟨S1024x128, x⟩, ⟨S1024x128, x⟩] h (ix2 r s) = x (ix2 r ⟨s.val % 128, by omega⟩) := by
  pointwise
  split
  · congr 2; exact Fin.ext (Nat.mod_eq_of_lt ‹_›).symm
  · congr 2; refine Fin.ext ?_; show s.val - 128 = s.val % 128; omega

theorem pay1_apply (coef : FVec Ideal S1024x256 .f32) (q) (k) (lse) (r : Fin 1024) (s : Fin 256) :
    k0_pay1 (F := Ideal) coef q k lse (ix2 r s) = pT coef q k lse r s := by
  unfold k0_pay1 pT
  simp only [exp2_apply, subf_apply, twice_apply]
  pointwise
  rfl

theorem pay2_apply (coef : FVec Ideal S1024x256 .f32) (q) (g) (k) (v) (lse) (dos) (delta) (r : Fin 1024) (s : Fin 256) :
    k0_pay2 (F := Ideal) coef q g k v lse dos delta (ix2 r s) = pT coef q k lse r s * gT g v dos delta r s := by
  unfold k0_pay2 gT
  simp only [mulf_apply, subf_apply, twice_apply, pay1_apply]
  pointwise

theorem pay8_apply (p : FVec Ideal S1024x256 .bf16) (a : Vec Ideal S128x256 .f32) (w : Vec Ideal S128x1024 .bf16) (d : Fin 128) (s : Fin 256) :
    k0_pay8 (F := Ideal) p a w (ix2 d s) = a (ix2 d s) + ∑ r : Fin 1024, w (ix2 d r) * p (ix2 r s) := by
  pointwise [k0_pay8]

theorem pay10_apply (p : FVec Ideal S1024x256 .f32) (a : Vec Ideal S128x1024 .f32) (w : Vec Ideal S128x256 .bf16) (d : Fin 128) (r : Fin 1024) :
    k0_pay10 (F := Ideal) p a w (ix2 d r) = a (ix2 d r) + ∑ s : Fin 256, w (ix2 d s) * p (ix2 r s) := by
  pointwise [k0_pay10, k0_pay7]

/-- The floor of a row over the group size, as the kernel computes it in signed words. -/
def tokW (r : ℕ) : BitVec 32 :=
  Scalar.select
    (IntOp.andi
      (IntOp.cmpi CmpIPredicate.ne
        (IntOp.subi (BitVec.setWidth 32 (IntOp.cmpi CmpIPredicate.sgt (BitVec.ofNat 32 r) 0#32))
          (BitVec.setWidth 32 (IntOp.cmpi CmpIPredicate.slt (BitVec.ofNat 32 r) 0#32)))
        (Scalar.subi (Scalar.extui (Scalar.cmpi CmpIPredicate.sgt 4#32 0#32))
          (Scalar.extui (Scalar.cmpi CmpIPredicate.slt 4#32 0#32))))
      (IntOp.cmpi CmpIPredicate.ne (IntOp.remsi ArithUnit.vector (BitVec.ofNat 32 r) 4#32) 0#32))
    (IntOp.subi (IntOp.divsi ArithUnit.vector (BitVec.ofNat 32 r) 4#32) 1#32)
    (IntOp.divsi ArithUnit.vector (BitVec.ofNat 32 r) 4#32)

theorem tokW_eq : ∀ r : Fin 1024, tokW r.val = BitVec.ofNat 32 (r.val / 4) := by decide +kernel

theorem sle_small : ∀ (s : Fin 256) (t : Fin 256),
    IntOp.cmpi CmpIPredicate.sle (BitVec.ofNat 32 s.val) (BitVec.ofNat 32 t.val) = if s.val ≤ t.val then 1#1 else 0#1 := by
  decide +kernel

/-- Below the diagonal of a diagonal tile (query token at or after the key) the probability, above it zero. -/
theorem pay17_apply (coef : FVec Ideal S1024x256 .f32) (q) (k) (lse) (r : Fin 1024) (s : Fin 256) :
    k0_pay17 (F := Ideal) coef (k0_pay15 q k) lse (ix2 r s) = if s.val ≤ r.val / 4 then pT coef q k lse r s else 0 := by
  have e : k0_pay17 (F := Ideal) coef (k0_pay15 q k) lse (ix2 r s)
      = Scalar.select (IntOp.cmpi CmpIPredicate.sle (BitVec.ofNat 32 s.val) (tokW r.val)) (k0_pay1 (F := Ideal) coef q k lse (ix2 r s)) 0 := by
    unfold tokW
    pointwise [k0_pay17, k0_pay1, k0_pay15]
  rw [e, tokW_eq, pay1_apply, sle_small s ⟨r.val / 4, by omega⟩]
  show Scalar.select (if s.val ≤ r.val / 4 then 1#1 else 0#1) _ _ = _
  split <;> rfl

theorem pay18_apply (coef : FVec Ideal S1024x256 .f32) (q) (g) (k) (v) (lse) (dos) (delta) (r : Fin 1024) (s : Fin 256) :
    k0_pay18 (F := Ideal) coef (k0_pay15 q k) (k0_pay16 g) v lse dos delta (ix2 r s)
      = (if s.val ≤ r.val / 4 then pT coef q k lse r s else 0) * gT g v dos delta r s := by
  unfold k0_pay18 gT
  simp only [mulf_apply, subf_apply, twice_apply, pay17_apply]
  pointwise [k0_pay16]

end Cert.Value
-- ==== Proof.Value.Rows.lean ====
/- A row of scores, probabilities and gradients as the kernel computes it for one query against one block of keys. -/
module

public import proofs.«01_k».proof.Proof.Value.Pay
public import Idealize.ShloMosaic.Lib.VecWindow
public import Idealize.ShloMosaic.Lib.WritesUnit

@[expose] public section

set_option maxRecDepth 16384

noncomputable section

namespace Cert.Value

open Cert.KernelIdeal Cert.KernelIdeal.Gen
open Idealize.ShloMosaic
open scoped BigOperators

/-- The unmasked softmax probability of query row `r` and key `s`, from the whole blocks of a head. -/
def pU (coef : FVec Ideal S1024x256 .f32) (Q : Vec Ideal S2048x1x4x128 .fp8e4m3) (K : Vec Ideal S1x2048x128 .fp8e4m3)
    (lse : Vec Ideal S8192x128 .f32) (r : Fin 8192) (s : Fin 2048) : EReal :=
  Ideal.exp2 ((∑ d : Fin 128, Q (ix4 ⟨r.val / 4, by omega⟩ 0 ⟨r.val % 4, by omega⟩ d) * K (ix3 0 s d))
      * coef (ix2 ⟨r.val % 1024, by omega⟩ ⟨s.val % 256, by omega⟩)
    - lse (ix2 r ⟨s.val % 128, by omega⟩))

/-- The other factor of the score gradient of query row `r` and key `s`. -/
def gU (DO : Vec Ideal S2048x1x4x128 .fp8e5m2) (V : Vec Ideal S1x2048x128 .fp8e4m3)
    (dos delta : Vec Ideal S8192x128 .f32) (r : Fin 8192) (s : Fin 2048) : EReal :=
  (∑ d : Fin 128, DO (ix4 ⟨r.val / 4, by omega⟩ 0 ⟨r.val % 4, by omega⟩ d) * V (ix3 0 s d)) * dos (ix2 r ⟨s.val % 128, by omega⟩)
    - delta (ix2 r ⟨s.val % 128, by omega⟩)

/-- The row of a query block. -/
abbrev row8 (i : Fin 8) (r : Fin 1024) : Fin 8192 := ⟨1024 * i.val + r.val, by omega⟩
/-- The key of a key block. -/
abbrev key8 (j : Fin 8) (s : Fin 256) : Fin 2048 := ⟨256 * j.val + s.val, by omega⟩

section Reads

variable {sig : RefSig} {κ : Kind} {sp : Space}

/-- The query block a tile loads. -/
theorem ld_q {e : EltTy} (v : View sig κ sp S2048x1x4x128 e) (f : v.ty.Contents (Elt Ideal)) {off : Fin 4 → ℕ} (i : Fin 8)
    (ho : off = ![256 * i.val, 0, 0, 0]) (inb) (t : Fin 256) (g : Fin 4) (d : Fin 128) :
    v.readAt (Elt Ideal) (Rect.unit (s := S2048x1x4x128) off S256x1x4x128.size inb).toLoadRect f (ix4 t 0 g d)
      = v.read (Elt Ideal) f (ix4 ⟨256 * i.val + t.val, by omega⟩ 0 g d) := by
  subst ho
  refine congrArg (v.read (Elt Ideal) f) (funext fun a => Fin.ext ?_)
  match a with
  | ⟨0, _⟩ => show 256 * i.val + 1 * t.val = _; simp [ix4]
  | ⟨1, _⟩ => rfl
  | ⟨2, _⟩ => show 0 + 1 * g.val = _; simp [ix4]
  | ⟨3, _⟩ => show 0 + 1 * d.val = _; simp [ix4]

/-- The key block a tile loads. -/
theorem ld_k {e : EltTy} (v : View sig κ sp S1x2048x128 e) (f : v.ty.Contents (Elt Ideal)) {off : Fin 3 → ℕ} (j : Fin 8)
    (ho : off = ![0, 256 * j.val, 0]) (inb) (s : Fin 256) (d : Fin 128) :
    v.readAt (Elt Ideal) (Rect.unit (s := S1x2048x128) off S1x256x128.size inb).toLoadRect f (ix3 0 s d)
      = v.read (Elt Ideal) f (ix3 0 (key8 j s) d) := by
  subst ho
  refine congrArg (v.read (Elt Ideal) f) (funext fun a => Fin.ext ?_)
  match a with
  | ⟨0, _⟩ => rfl
  | ⟨1, _⟩ => show 256 * j.val + 1 * s.val = _; simp [ix3]
  | ⟨2, _⟩ => show 0 + 1 * d.val = _; simp [ix3]

/-- A row block's rows of a row-wise scratch buffer. -/
theorem ld_rows {e : EltTy} (v : View sig κ sp S8192x128 e) (f : v.ty.Contents (Elt Ideal)) {off : Fin 2 → ℕ} (i : Fin 8)
    (ho : off = ![1024 * i.val, 0]) (inb) (r : Fin 1024) (c : Fin 128) :
    v.readAt (Elt Ideal) (Rect.unit (s := S8192x128) off S1024x128.size inb).toLoadRect f (ix2 r c)
      = v.read (Elt Ideal) f (ix2 (row8 i r) c) := by
  subst ho
  refine congrArg (v.read (Elt Ideal) f) (funext fun a => Fin.ext ?_)
  match a with
  | ⟨0, _⟩ => show 1024 * i.val + 1 * r.val = _; simp [ix2]
  | ⟨1, _⟩ => show 0 + 1 * c.val = _; simp [ix2]

/-- A row block's columns of a transposed buffer. -/
theorem ld_rowT {e : EltTy} (v : View sig κ sp S128x8192 e) (f : v.ty.Contents (Elt Ideal)) {off : Fin 2 → ℕ} (i : Fin 8)
    (ho : off = ![0, 1024 * i.val]) (inb) (d : Fin 128) (r : Fin 1024) :
    v.readAt (Elt Ideal) (Rect.unit (s := S128x8192) off S128x1024.size inb).toLoadRect f (ix2 d r)
      = v.read (Elt Ideal) f (ix2 d (row8 i r)) := by
  subst ho
  refine congrArg (v.read (Elt Ideal) f) (funext fun a => Fin.ext ?_)
  match a with
  | ⟨0, _⟩ => show 0 + 1 * d.val = _; simp [ix2]
  | ⟨1, _⟩ => show 1024 * i.val + 1 * r.val = _; simp [ix2]

/-- A key block's columns of a transposed buffer. -/
theorem ld_keyT {e : EltTy} (v : View sig κ sp S128x2048 e) (f : v.ty.Contents (Elt Ideal)) {off : Fin 2 → ℕ} (j : Fin 8)
    (ho : off = ![0, 256 * j.val]) (inb) (d : Fin 128) (s : Fin 256) :
    v.readAt (Elt Ideal) (Rect.unit (s := S128x2048) off S128x256.size inb).toLoadRect f (ix2 d s)
      = v.read (Elt Ideal) f (ix2 d (key8 j s)) := by
  subst ho
  refine congrArg (v.read (Elt Ideal) f) (funext fun a => Fin.ext ?_)
  match a with
  | ⟨0, _⟩ => show 0 + 1 * d.val = _; simp [ix2]
  | ⟨1, _⟩ => show 256 * j.val + 1 * s.val = _; simp [ix2]

/-- A store of a key block's columns, newest. -/
theorem st_keyT (v : View sig κ sp S128x2048 .f32) (f : v.ty.Contents (Elt Ideal)) {off : Fin 2 → ℕ} (j : Fin 8)
    (ho : off = ![0, 256 * j.val]) (inb) (w : (Rect.unit (s := S128x2048) off S128x256.size inb).shape.Idx → Elt Ideal .f32)
    (L : List (View.Piece (Elt Ideal) S128x2048 .f32)) (d : Fin 128) (s : Fin 2048) :
    v.read (Elt Ideal) (v.writes (Elt Ideal) f (⟨Rect.unit (s := S128x2048) off S128x256.size inb, w⟩ :: L)) (ix2 d s)
      = if h : s.val / 256 = j.val then w (ix2 d (⟨s.val % 256, by omega⟩ : Fin 256))
        else v.read (Elt Ideal) (v.writes (Elt Ideal) f L) (ix2 d s) := by
  split
  · rename_i h
    refine View.read_writes_cons_unit_of_mem v f inb w L _ _ ho ?_
    intro a
    match a with
    | ⟨0, _⟩ => show d.val = 0 + d.val; omega
    | ⟨1, _⟩ => show s.val = 256 * j.val + s.val % 256; omega
  · rename_i h
    refine View.read_writes_cons_unit_of_not_mem v f inb w L _ ho (1 : Fin 2) ?_
    show s.val < 256 * j.val ∨ 256 * j.val + 256 ≤ s.val
    omega

/-- A store of a row block's columns, newest. -/
theorem st_rowT (v : View sig κ sp S128x8192 .f32) (f : v.ty.Contents (Elt Ideal)) {off : Fin 2 → ℕ} (i : Fin 8)
    (ho : off = ![0, 1024 * i.val]) (inb) (w : (Rect.unit (s := S128x8192) off S128x1024.size inb).shape.Idx → Elt Ideal .f32)
    (L : List (View.Piece (Elt Ideal) S128x8192 .f32)) (d : Fin 128) (r : Fin 8192) :
    v.read (Elt Ideal) (v.writes (Elt Ideal) f (⟨Rect.unit (s := S128x8192) off S128x1024.size inb, w⟩ :: L)) (ix2 d r)
      = if h : r.val / 1024 = i.val then w (ix2 d (⟨r.val % 1024, by omega⟩ : Fin 1024))
        else v.read (Elt Ideal) (v.writes (Elt Ideal) f L) (ix2 d r) := by
  split
  · rename_i h
    refine View.read_writes_cons_unit_of_mem v f inb w L _ _ ho ?_
    intro a
    match a with
    | ⟨0, _⟩ => show d.val = 0 + d.val; omega
    | ⟨1, _⟩ => show r.val = 1024 * i.val + r.val % 1024; omega
  · rename_i h
    refine View.read_writes_cons_unit_of_not_mem v f inb w L _ ho (1 : Fin 2) ?_
    show r.val < 1024 * i.val ∨ 1024 * i.val + 1024 ≤ r.val
    omega

end Reads

/-- The probability a tile computes from its loads is that of its rows and keys. -/
theorem pT_eq (coef : FVec Ideal S1024x256 .f32) (q) (k) (l) (Q : Vec Ideal S2048x1x4x128 .fp8e4m3) (K : Vec Ideal S1x2048x128 .fp8e4m3)
    (lse : Vec Ideal S8192x128 .f32) (i j : Fin 8)
    (hq : ∀ t g d, q (ix4 t 0 g d) = Q (ix4 ⟨256 * i.val + t.val, by omega⟩ 0 g d))
    (hk : ∀ s d, k (ix3 0 s d) = K (ix3 0 (key8 j s) d))
    (hl : ∀ r c, l (ix2 r c) = lse (ix2 (row8 i r) c)) (r : Fin 1024) (s : Fin 256) :
    pT coef q k l r s = pU coef Q K lse (row8 i r) (key8 j s) := by
  unfold pT pU
  simp only [hq, hk, hl]
  have e1 : 256 * i.val + r.val / 4 = (1024 * i.val + r.val) / 4 := by omega
  have e2 : (1024 * i.val + r.val) % 4 = r.val % 4 := by omega
  have e3 : (1024 * i.val + r.val) % 1024 = r.val := by omega
  have e4 : (256 * j.val + s.val) % 256 = s.val := by omega
  have e5 : (256 * j.val + s.val) % 128 = s.val % 128 := by omega
  simp only [e1, e2, e3, e4, e5]

theorem gT_eq (q) (k) (ds) (dl) (DO : Vec Ideal S2048x1x4x128 .fp8e5m2) (V : Vec Ideal S1x2048x128 .fp8e4m3)
    (dos delta : Vec Ideal S8192x128 .f32) (i j : Fin 8)
    (hq : ∀ t g d, q (ix4 t 0 g d) = DO (ix4 ⟨256 * i.val + t.val, by omega⟩ 0 g d))
    (hk : ∀ s d, k (ix3 0 s d) = V (ix3 0 (key8 j s) d))
    (hs : ∀ r c, ds (ix2 r c) = dos (ix2 (row8 i r) c))
    (hl : ∀ r c, dl (ix2 r c) = delta (ix2 (row8 i r) c)) (r : Fin 1024) (s : Fin 256) :
    gT q k ds dl r s = gU DO V dos delta (row8 i r) (key8 j s) := by
  unfold gT gU
  simp only [hq, hk, hl, hs]
  have e1 : 256 * i.val + r.val / 4 = (1024 * i.val + r.val) / 4 := by omega
  have e2 : (1024 * i.val + r.val) % 4 = r.val % 4 := by omega
  have e5 : (256 * j.val + s.val) % 128 = s.val % 128 := by omega
  simp only [e1, e2, e5]

end Cert.Value
-- ==== Proof.Value.Prologue.lean ====
/- The arrays the kernel prepares before its loops, at one index. -/
module

public import proofs.«01_k».proof.Proof.Value.Scalar
public import proofs.«01_k».proof.Proof.Value.Rows

@[expose] public section

set_option maxRecDepth 16384

noncomputable section

namespace Cert.Value

open Cert.KernelIdeal Cert.KernelIdeal.Gen
open Idealize.ShloMosaic
open scoped BigOperators

/-- The kernel's base-two constant. -/
theorem log2e_eq : (Named.named κ "log2e" 0x3FB8AA3B#32 : Ideal .f32) = L2 :=
  IdealRules.named_const.ideal_named_scalar _ _ _ _ rfl

theorem pay20_apply (w : Vec Ideal S1x1x128 .f32) (r c : Fin 128) :
    k0_pay20 (F := Ideal) w (ix2 r c) = w (ix3 0 0 r) * L2 := by
  pointwise [k0_pay20]
  rw [← log2e_eq]

theorem pay21_apply (w : Vec Ideal S1x128 .f32) (r c : Fin 128) :
    k0_pay21 (F := Ideal) w (ix2 r c) = w (ix2 0 r) := by
  pointwise [k0_pay21]

theorem pay22_apply (z : Elt Ideal .f32) (w : Vec Ideal S1x128 .f32) (r c : Fin 128) :
    k0_pay22 (F := Ideal) z w (ix2 r c) = w (ix2 0 r) * z := by
  pointwise [k0_pay22, k0_pay21]

theorem pay24_apply (w : Vec Ideal S1x128 .f32) (g : Vec Ideal S32x1x4x128 .fp8e5m2) (o : Vec Ideal S32x1x4x128 .bf16) (r c : Fin 128) :
    k0_pay24 (F := Ideal) w g o (ix2 r c)
      = w (ix2 0 r) * ∑ d : Fin 128, g (ix4 ⟨r.val / 4, by omega⟩ 0 ⟨r.val % 4, by omega⟩ d) * o (ix4 ⟨r.val / 4, by omega⟩ 0 ⟨r.val % 4, by omega⟩ d) := by
  pointwise [k0_pay24, k0_pay21, k0_pay23]

theorem pay26_apply (w : Vec Ideal S1x128 .f32) (g : Vec Ideal S32x1x4x128 .fp8e5m2) (d r : Fin 128) :
    k0_pay26 (F := Ideal) (k0_pay21 w) (k0_pay23 g) (ix2 d r)
      = g (ix4 ⟨r.val / 4, by omega⟩ 0 ⟨r.val % 4, by omega⟩ d) * w (ix2 0 r) := by
  pointwise [k0_pay26, k0_pay21, k0_pay23]

/-- Sixteen copies of the eight scale rows, one under the other. -/
theorem tile16_apply (x : S8x128.Idx → EReal) (h) (r d : Fin 128) :
    concatenate S128x128 0 (List.replicate 16 ⟨S8x128, x⟩) h (ix2 r d) = x (ix2 ⟨r.val % 8, by omega⟩ d) :=
  concatenate_replicate_apply (t := S128x128) (s₁ := S8x128) (0 : Fin 2) 16 x h rfl (ix2 r d) (ix2 (⟨r.val % 8, by omega⟩ : Fin 8) d) rfl (fun b hb => by
    match b with
    | ⟨0, _⟩ => exact absurd rfl hb
    | ⟨1, _⟩ => rfl)

/-- A hundred and twenty-eight copies of the eight scale rows, one under the other. -/
theorem tile128_apply (x : S8x128.Idx → EReal) (h) (r : Fin 1024) (d : Fin 128) :
    concatenate S1024x128 0 (List.replicate 128 ⟨S8x128, x⟩) h (ix2 r d) = x (ix2 ⟨r.val % 8, by omega⟩ d) :=
  concatenate_replicate_apply (t := S1024x128) (s₁ := S8x128) (0 : Fin 2) 128 x h rfl (ix2 r d) (ix2 (⟨r.val % 8, by omega⟩ : Fin 8) d) rfl (fun b hb => by
    match b with
    | ⟨0, _⟩ => exact absurd rfl hb
    | ⟨1, _⟩ => rfl)

theorem pay27_aux (X : FVec Ideal S128x128 .f32) (q : Vec Ideal S32x1x4x128 .fp8e4m3) (d r : Fin 128) :
    (shapeCast S128x128 (transpose S128x128 [1, 0]
      (mulf (F := Ideal) (extf .bf16 (shapeCast S128x128 (shapeCast S32x4x128 q shapeCasts_S32x1x4x128_S32x4x128) shapeCasts_S32x4x128_S128x128 : FVec Ideal S128x128 .fp8e4m3) bitsLt_fp8e4m3_bf16)
        (truncf .bf16 X bitsLt_bf16_f32)) transposes_S128x128_p1_0_S128x128) shapeCasts_S128x128_S128x128 : FVec Ideal S128x128 .bf16) (ix2 d r)
      = q (ix4 ⟨r.val / 4, by omega⟩ 0 ⟨r.val % 4, by omega⟩ d) * X (ix2 r d) := by
  pointwise

theorem pay27_apply (z : Vec Ideal S1x8x128 .f32) (q : Vec Ideal S32x1x4x128 .fp8e4m3) (d r : Fin 128) :
    k0_pay27 (F := Ideal) z q (ix2 d r)
      = q (ix4 ⟨r.val / 4, by omega⟩ 0 ⟨r.val % 4, by omega⟩ d) * z (ix3 0 ⟨r.val % 8, by omega⟩ d) := by
  refine (pay27_aux _ q d r).trans (congrArg (_ * ·) ((tile16_apply (shapeCast S8x128 z shapeCasts_S1x8x128_S8x128) concatenates_S8x128_S8x128_S8x128_S8x128_S8x128_S8x128_S8x128_S8x128_S8x128_S8x128_S8x128_S8x128_S8x128_S8x128_S8x128_S8x128_S128x128_d0 r d).trans ?_))
  pointwise

theorem sm_log2e_named : (Named.named κ "sm_log2e" 0x3E0293EE#32 : Ideal .f32) = Ideal.ofBits .f32 0x3DB504F3#32 * L2 :=
  (IdealRules.named_const.ideal_named_scalar _ _ _ _ rfl).trans sm_log2e_eq

theorem pay563_apply (z : Vec Ideal S1x8x128 .f32) (r : Fin 1024) (s : Fin 256) :
    k0_pay563 (F := Ideal) z (ix2 r s)
      = z (ix3 0 ⟨r.val % 8, by omega⟩ ⟨s.val % 128, by omega⟩) * (Ideal.ofBits .f32 0x3DB504F3#32 * L2) := by
  refine (twice_apply _ concatenates_S1024x128_S1024x128_S1024x256_d1 r s).trans ((tile128_apply (mulf (F := Ideal) (shapeCast S8x128 z shapeCasts_S1x8x128_S8x128) (broadcast S8x128 (Named.named κ "sm_log2e" 0x3E0293EE#32 : Ideal .f32))) _ r (⟨s.val % 128, by omega⟩ : Fin 128)).trans ?_)
  rw [← sm_log2e_named]
  pointwise

theorem pay560_apply (i) : k0_pay560 (F := Ideal) i = (0 : EReal) := by
  pointwise [k0_pay560]

theorem pay562_apply (i) : k0_pay562 (F := Ideal) i = (0 : EReal) := by
  pointwise [k0_pay562]

theorem pay568_apply (w : Vec Ideal S128x128 .f32) (s d : Fin 128) :
    k0_pay568 (F := Ideal) w (ix3 0 s d) = w (ix2 d s) * Ideal.ofBits .f32 0x3DB504F3#32 := by
  pointwise [k0_pay568]

theorem pay569_apply (w : Vec Ideal S128x128 .f32) (s d : Fin 128) :
    k0_pay569 (F := Ideal) w (ix3 0 s d) = w (ix2 d s) := by
  pointwise [k0_pay569]

theorem pay680_apply (z : Elt Ideal .f32) (w : Vec Ideal S128x128 .f32) (t : Fin 32) (g : Fin 4) (d : Fin 128) :
    k0_pay680 (F := Ideal) z w (ix4 t 0 g d) = w (ix2 d ⟨t.val * 4 + g.val, by omega⟩) * (z * Ideal.ofBits .f32 0x3DB504F3#32) := by
  pointwise [k0_pay680]
  try rfl

end Cert.Value
-- ==== Proof.Value.Scratch.lean ====
/- The scratch arrays at the entry of the loops, by coordinates. -/
module

public import proofs.«01_k».proof.Proof.Value.Prologue
public import proofs.«01_k».proof.Proof.KernelIdeal.Body
public import Idealize.ShloMosaic.Lib.WholeRead

@[expose] public section

set_option maxRecDepth 65536

noncomputable section

namespace Cert.Value

open Cert.KernelIdeal Cert.KernelIdeal.Gen
open Idealize.ShloMosaic
open scoped BigOperators

/-- The first rows of the row-wise tiles. -/
abbrev offR (c : Fin 64) : Fin 2 → ℕ := ![128 * c.val, 0]
/-- The first columns of the transposed tiles. -/
abbrev offT {n : ℕ} (c : Fin n) : Fin 2 → ℕ := ![0, 128 * c.val]

theorem inbR : ∀ (c : Fin 64) a, offR c a + S128x128.size a ≤ S8192x128.size a := by decide
theorem inbT64 : ∀ (c : Fin 64) a, offT c a + S128x128.size a ≤ S128x8192.size a := by decide
theorem inbT16 : ∀ (c : Fin 16) a, offT c a + S128x128.size a ≤ S128x2048.size a := by decide
theorem inb_lse : ∀ (c : Fin 64) a, (![0, c.val, 0] : Fin 3 → ℕ) a + S1x1x128.size a ≤ S1x64x128.size a := by decide
theorem inb_dos : ∀ (c : Fin 64) a, (![c.val, 0] : Fin 2 → ℕ) a + S1x128.size a ≤ S64x128.size a := by decide
theorem inb_q : ∀ (c : Fin 64) a, (![32 * c.val, 0, 0, 0] : Fin 4 → ℕ) a + S32x1x4x128.size a ≤ S2048x1x4x128.size a := by decide
theorem inb_k : ∀ (c : Fin 16) a, (![0, 128 * c.val, 0] : Fin 3 → ℕ) a + S1x128x128.size a ≤ S1x2048x128.size a := by decide

/-- A row tile's row of the log-sum-exp block. -/
abbrev ldL (arg5 : Memref sig Kind.tc Space.vmem S1x64x128 EltTy.f32) (harg5 : arg5.IsWhole) (x4 : Vec Ideal S1x64x128 .f32) (c : Fin 64) :=
  View.readAt (Elt Ideal) arg5.view (Rect.unit (s := S1x64x128) ![0, c.val, 0] S1x1x128.size (inb_lse c)).toLoadRect (harg5.unread x4)
/-- A row tile's row of output-gradient scales. -/
abbrev ldS (arg6 : Memref sig Kind.tc Space.vmem S64x128 EltTy.f32) (harg6 : arg6.IsWhole) (x5 : Vec Ideal S64x128 .f32) (c : Fin 64) :=
  View.readAt (Elt Ideal) arg6.view (Rect.unit (s := S64x128) ![c.val, 0] S1x128.size (inb_dos c)).toLoadRect (harg6.unread x5)
/-- A row tile's tokens of a query-side block. -/
abbrev ldQ {e : EltTy} (m : Memref sig Kind.tc Space.vmem S2048x1x4x128 e) (h : m.IsWhole) (x : Vec Ideal S2048x1x4x128 e) (c : Fin 64) :=
  View.readAt (Elt Ideal) m.view (Rect.unit (s := S2048x1x4x128) ![32 * c.val, 0, 0, 0] S32x1x4x128.size (inb_q c)).toLoadRect (h.unread x)
/-- A key tile of a key-side block. -/
abbrev ldK {e : EltTy} (m : Memref sig Kind.tc Space.vmem S1x2048x128 e) (h : m.IsWhole) (x : Vec Ideal S1x2048x128 e) (c : Fin 16) :=
  View.readAt (Elt Ideal) m.view (Rect.unit (s := S1x2048x128) ![0, 128 * c.val, 0] S1x128x128.size (inb_k c)).toLoadRect (h.unread x)

section Lists
variable (cc : Dev nD) (i : grid0.Coords)

theorem HS0_eq (arg5) (harg5 : arg5.IsWhole) (x4) :
    Hand.kernelRun0_A.sl.HS0_64 (F := Ideal) cc arg5 harg5 x4
      = View.tilePieces (s := S8192x128) S128x128.size offR inbR (fun c => k0_pay20 (F := Ideal) (ldL arg5 harg5 x4 c)) 64 le_rfl := rfl

theorem HS1_eq (arg6) (harg6 : arg6.IsWhole) (arg8) (harg8 : arg8.IsWhole) (arg9) (harg9 : arg9.IsWhole) (x5) (x7) (x8) :
    Hand.kernelRun0_A.sl.HS1_64 (F := Ideal) cc arg6 harg6 arg8 harg8 arg9 harg9 x5 x7 x8
      = View.tilePieces (s := S8192x128) S128x128.size offR inbR (fun c => k0_pay25 (k0_pay24 (F := Ideal) (ldS arg6 harg6 x5 c) (ldQ arg8 harg8 x7 c) (ldQ arg9 harg9 x8 c))) 64 le_rfl := rfl

theorem HS2_eq (arg2) (harg2 : arg2.IsWhole) (arg6) (harg6 : arg6.IsWhole) (x1) (x5) :
    Hand.kernelRun0_A.sl.HS2_64 (F := Ideal) cc i arg2 harg2 arg6 harg6 x1 x5
      = View.tilePieces (s := S8192x128) S128x128.size offR inbR (fun c => k0_pay22 (F := Ideal) (Hand.kernelRun0_A.sl.r_1 cc i arg2 harg2 x1) (ldS arg6 harg6 x5 c)) 64 le_rfl := rfl

theorem HS3_eq (arg4) (harg4 : arg4.IsWhole) (arg7) (harg7 : arg7.IsWhole) (x3) (x6) :
    Hand.kernelRun0_A.sl.HS3_64 (F := Ideal) cc arg4 harg4 arg7 harg7 x3 x6
      = View.tilePieces (s := S128x8192) S128x128.size offT inbT64 (fun c => k0_pay27 (F := Ideal)
          (View.readAt (Elt Ideal) arg4.view (Rect.unit ![0, 0, 0] S1x8x128.size inb_S1x8x128_S1x8x128_0_0_0).toLoadRect (harg4.unread x3)) (ldQ arg7 harg7 x6 c)) 64 le_rfl := rfl

theorem HS4_eq (arg6) (harg6 : arg6.IsWhole) (arg8) (harg8 : arg8.IsWhole) (x5) (x7) :
    Hand.kernelRun0_A.sl.HS4_64 (F := Ideal) cc arg6 harg6 arg8 harg8 x5 x7
      = View.tilePieces (s := S128x8192) S128x128.size offT inbT64 (fun c => k0_pay26 (F := Ideal) (k0_pay21 (ldS arg6 harg6 x5 c)) (k0_pay23 (ldQ arg8 harg8 x7 c))) 64 le_rfl := rfl

theorem HS5_eq (arg10) (harg10 : arg10.IsWhole) (x9) :
    Hand.kernelRun0_A.sl.HS5_16 (F := Ideal) cc arg10 harg10 x9
      = View.tilePieces (s := S128x2048) S128x128.size offT inbT16 (fun c => k0_pay543 (F := Ideal) (ldK arg10 harg10 x9 c)) 16 le_rfl := rfl

/-! ## Reading the tiled buffers -/

section Reads

variable {sig : RefSig} {κ : Kind} {sp : Space} {e : EltTy}

theorem rdR (v : View sig κ sp S8192x128 e) (f : v.ty.Contents (Elt Ideal)) (P) (r : Fin 8192) (d : Fin 128) :
    v.read (Elt Ideal) (v.writes (Elt Ideal) f (View.tilePieces (s := S8192x128) S128x128.size offR inbR P 64 le_rfl)) (ix2 r d)
      = P ⟨r.val / 128, by omega⟩ (ix2 (⟨r.val % 128, by omega⟩ : Fin 128) d) := by
  refine View.read_tilePieces v f S128x128.size offR inbR P 64 le_rfl (ix2 r d) ⟨r.val / 128, by omega⟩ (by show r.val / 128 < 64; omega) (ix2 (⟨r.val % 128, by omega⟩ : Fin 128) d) ?_ (0 : Fin 2) ?_
  · intro a
    match a with
    | ⟨0, _⟩ => show r.val = 128 * (r.val / 128) + r.val % 128; omega
    | ⟨1, _⟩ => show d.val = 0 + d.val; omega
  · intro i' h
    have h' : i'.val ≠ r.val / 128 := fun hh => h (Fin.ext hh)
    show r.val < 128 * i'.val ∨ 128 * i'.val + 128 ≤ r.val
    omega

theorem rdT (v : View sig κ sp S128x8192 e) (f : v.ty.Contents (Elt Ideal)) (P) (d : Fin 128) (r : Fin 8192) :
    v.read (Elt Ideal) (v.writes (Elt Ideal) f (View.tilePieces (s := S128x8192) S128x128.size offT inbT64 P 64 le_rfl)) (ix2 d r)
      = P ⟨r.val / 128, by omega⟩ (ix2 d (⟨r.val % 128, by omega⟩ : Fin 128)) := by
  refine View.read_tilePieces v f S128x128.size offT inbT64 P 64 le_rfl (ix2 d r) ⟨r.val / 128, by omega⟩ (by show r.val / 128 < 64; omega) (ix2 d (⟨r.val % 128, by omega⟩ : Fin 128)) ?_ (1 : Fin 2) ?_
  · intro a
    match a with
    | ⟨0, _⟩ => show d.val = 0 + d.val; omega
    | ⟨1, _⟩ => show r.val = 128 * (r.val / 128) + r.val % 128; omega
  · intro i' h
    have h' : i'.val ≠ r.val / 128 := fun hh => h (Fin.ext hh)
    show r.val < 128 * i'.val ∨ 128 * i'.val + 128 ≤ r.val
    omega

theorem rdK (v : View sig κ sp S128x2048 e) (f : v.ty.Contents (Elt Ideal)) (P) (d : Fin 128) (s : Fin 2048) :
    v.read (Elt Ideal) (v.writes (Elt Ideal) f (View.tilePieces (s := S128x2048) S128x128.size offT inbT16 P 16 le_rfl)) (ix2 d s)
      = P ⟨s.val / 128, by omega⟩ (ix2 d (⟨s.val % 128, by omega⟩ : Fin 128)) := by
  refine View.read_tilePieces v f S128x128.size offT inbT16 P 16 le_rfl (ix2 d s) ⟨s.val / 128, by omega⟩ (by show s.val / 128 < 16; omega) (ix2 d (⟨s.val % 128, by omega⟩ : Fin 128)) ?_ (1 : Fin 2) ?_
  · intro a
    match a with
    | ⟨0, _⟩ => show d.val = 0 + d.val; omega
    | ⟨1, _⟩ => show s.val = 128 * (s.val / 128) + s.val % 128; omega
  · intro i' h
    have h' : i'.val ≠ s.val / 128 := fun hh => h (Fin.ext hh)
    show s.val < 128 * i'.val ∨ 128 * i'.val + 128 ≤ s.val
    omega

end Reads

theorem ldL_apply (arg5) (harg5 : arg5.IsWhole) (x4) (c : Fin 64) (r : Fin 128) : ldL arg5 harg5 x4 c (ix3 0 0 r) = x4 (ix3 0 c r) := by
  refine (harg5.readAt_unread x4 _ _).trans (congrArg x4 (funext fun a => Fin.ext ?_))
  match a with
  | ⟨0, _⟩ => rfl
  | ⟨1, _⟩ => show c.val + 1 * 0 = c.val; omega
  | ⟨2, _⟩ => show 0 + 1 * r.val = r.val; omega

theorem ldS_apply (arg6) (harg6 : arg6.IsWhole) (x5) (c : Fin 64) (r : Fin 128) : ldS arg6 harg6 x5 c (ix2 0 r) = x5 (ix2 c r) := by
  refine (harg6.readAt_unread x5 _ _).trans (congrArg x5 (funext fun a => Fin.ext ?_))
  match a with
  | ⟨0, _⟩ => show c.val + 1 * 0 = c.val; omega
  | ⟨1, _⟩ => show 0 + 1 * r.val = r.val; omega

theorem ldQ_apply {e : EltTy} (m : Memref sig Kind.tc Space.vmem S2048x1x4x128 e) (h : m.IsWhole) (x) (c : Fin 64) (t : Fin 32) (g : Fin 4) (d : Fin 128) :
    ldQ m h x c (ix4 t 0 g d) = x (ix4 ⟨32 * c.val + t.val, by omega⟩ 0 g d) := by
  refine (h.readAt_unread x _ _).trans (congrArg x (funext fun a => Fin.ext ?_))
  match a with
  | ⟨0, _⟩ => show 32 * c.val + 1 * t.val = 32 * c.val + t.val; omega
  | ⟨1, _⟩ => rfl
  | ⟨2, _⟩ => show 0 + 1 * g.val = g.val; omega
  | ⟨3, _⟩ => show 0 + 1 * d.val = d.val; omega

theorem ldK_apply {e : EltTy} (m : Memref sig Kind.tc Space.vmem S1x2048x128 e) (h : m.IsWhole) (x) (c : Fin 16) (s : Fin 128) (d : Fin 128) :
    ldK m h x c (ix3 0 s d) = x (ix3 0 ⟨128 * c.val + s.val, by omega⟩ d) := by
  refine (h.readAt_unread x _ _).trans (congrArg x (funext fun a => Fin.ext ?_))
  match a with
  | ⟨0, _⟩ => rfl
  | ⟨1, _⟩ => show 128 * c.val + 1 * s.val = 128 * c.val + s.val; omega
  | ⟨2, _⟩ => show 0 + 1 * d.val = d.val; omega

theorem ldV_apply (m : Memref sig Kind.tc Space.vmem S1x8x128 .f32) (h : m.IsWhole) (x : Vec Ideal S1x8x128 .f32) (g : Fin 8) (d : Fin 128) :
    View.readAt (Elt Ideal) m.view (Rect.unit ![0, 0, 0] S1x8x128.size inb_S1x8x128_S1x8x128_0_0_0).toLoadRect (h.unread x) (ix3 0 g d) = x (ix3 0 g d) := by
  refine (h.readAt_unread x _ _).trans (congrArg x (funext fun a => Fin.ext ?_))
  match a with
  | ⟨0, _⟩ => rfl
  | ⟨1, _⟩ => show 0 + 1 * g.val = g.val; omega
  | ⟨2, _⟩ => show 0 + 1 * d.val = d.val; omega

theorem pay543_apply (w : Vec Ideal S1x128x128 .fp8e4m3) (d s : Fin 128) : k0_pay543 (F := Ideal) w (ix2 d s) = w (ix3 0 s d) := by
  pointwise [k0_pay543]

/-! ## What the scratch buffers hold when the loops start -/

/-- The token of a query row. -/
abbrev tok (r : Fin 8192) : Fin 2048 := ⟨r.val / 4, by omega⟩
/-- The group member of a query row. -/
abbrev grp (r : Fin 8192) : Fin 4 := ⟨r.val % 4, by omega⟩
/-- The row's place in a block of 64 lines of 128. -/
abbrev lin (r : Fin 8192) : Fin 64 := ⟨r.val / 128, by omega⟩
abbrev lan (r : Fin 8192) : Fin 128 := ⟨r.val % 128, by omega⟩

/-- The token within a tile is the row's token, and its group member the row's. -/
theorem tok_tile (r : Fin 8192) : (⟨32 * (lin r).val + (lan r).val / 4, by omega⟩ : Fin 2048) = tok r := Fin.ext (by show 32 * (r.val / 128) + r.val % 128 / 4 = r.val / 4; omega)
theorem grp_tile (r : Fin 8192) : (⟨(lan r).val % 4, by omega⟩ : Fin 4) = grp r := Fin.ext (by show r.val % 128 % 4 = r.val % 4; omega)

theorem sc15 (arg15 : Memref sig Kind.tc Space.vmem S8192x128 .f32) (f : arg15.view.ty.Contents (Elt Ideal)) (arg5) (harg5 : arg5.IsWhole) (x4) (r : Fin 8192) (c : Fin 128) :
    arg15.view.read (Elt Ideal) (arg15.view.writes (Elt Ideal) f (Hand.kernelRun0_A.sl.HS0_64 (F := Ideal) cc arg5 harg5 x4)) (ix2 r c)
      = x4 (ix3 0 (lin r) (lan r)) * L2 := by
  rw [HS0_eq, rdR, pay20_apply, ldL_apply]

theorem sc16 (arg16 : Memref sig Kind.tc Space.vmem S8192x128 .f32) (f : arg16.view.ty.Contents (Elt Ideal)) (arg6) (harg6 : arg6.IsWhole) (arg8) (harg8 : arg8.IsWhole) (arg9) (harg9 : arg9.IsWhole) (x5) (x7) (x8) (r : Fin 8192) (c : Fin 128) :
    arg16.view.read (Elt Ideal) (arg16.view.writes (Elt Ideal) f (Hand.kernelRun0_A.sl.HS1_64 (F := Ideal) cc arg6 harg6 arg8 harg8 arg9 harg9 x5 x7 x8)) (ix2 r c)
      = x5 (ix2 (lin r) (lan r)) * ∑ d : Fin 128, x7 (ix4 (tok r) 0 (grp r) d) * x8 (ix4 (tok r) 0 (grp r) d) := by
  rw [HS1_eq, rdR]
  have e : ∀ w : FVec Ideal S128x128 .f32, k0_pay25 (F := Ideal) w = w := fun w => shapeCast_self _ _
  rw [e, pay24_apply, ldS_apply]
  simp only [ldQ_apply]
  rw [tok_tile, grp_tile]

theorem sc17 (arg17 : Memref sig Kind.tc Space.vmem S8192x128 .f32) (f : arg17.view.ty.Contents (Elt Ideal)) (arg2) (harg2 : arg2.IsWhole) (arg6) (harg6 : arg6.IsWhole) (x1) (x5) (r : Fin 8192) (c : Fin 128) :
    arg17.view.read (Elt Ideal) (arg17.view.writes (Elt Ideal) f (Hand.kernelRun0_A.sl.HS2_64 (F := Ideal) cc i arg2 harg2 arg6 harg6 x1 x5)) (ix2 r c)
      = x5 (ix2 (lin r) (lan r)) * Hand.kernelRun0_A.sl.r_1 cc i arg2 harg2 x1 := by
  rw [HS2_eq, rdR, pay22_apply, ldS_apply]

theorem sc18 (arg18 : Memref sig Kind.tc Space.vmem S128x8192 .bf16) (f : arg18.view.ty.Contents (Elt Ideal)) (arg4) (harg4 : arg4.IsWhole) (arg7) (harg7 : arg7.IsWhole) (x3) (x6) (d : Fin 128) (r : Fin 8192) :
    arg18.view.read (Elt Ideal) (arg18.view.writes (Elt Ideal) f (Hand.kernelRun0_A.sl.HS3_64 (F := Ideal) cc arg4 harg4 arg7 harg7 x3 x6)) (ix2 d r)
      = x6 (ix4 (tok r) 0 (grp r) d) * x3 (ix3 0 ⟨r.val % 8, by omega⟩ d) := by
  rw [HS3_eq, rdT, pay27_apply, ldQ_apply, ldV_apply, tok_tile, grp_tile]
  congr 3
  exact Fin.ext (by show r.val % 128 % 8 = r.val % 8; omega)

theorem sc19 (arg19 : Memref sig Kind.tc Space.vmem S128x8192 .bf16) (f : arg19.view.ty.Contents (Elt Ideal)) (arg6) (harg6 : arg6.IsWhole) (arg8) (harg8 : arg8.IsWhole) (x5) (x7) (d : Fin 128) (r : Fin 8192) :
    arg19.view.read (Elt Ideal) (arg19.view.writes (Elt Ideal) f (Hand.kernelRun0_A.sl.HS4_64 (F := Ideal) cc arg6 harg6 arg8 harg8 x5 x7)) (ix2 d r)
      = x7 (ix4 (tok r) 0 (grp r) d) * x5 (ix2 (lin r) (lan r)) := by
  rw [HS4_eq, rdT, pay26_apply, ldQ_apply, ldS_apply, tok_tile, grp_tile]

theorem sc20 (arg20 : Memref sig Kind.tc Space.vmem S128x2048 .bf16) (f : arg20.view.ty.Contents (Elt Ideal)) (arg10) (harg10 : arg10.IsWhole) (x9) (d : Fin 128) (s : Fin 2048) :
    arg20.view.read (Elt Ideal) (arg20.view.writes (Elt Ideal) f (Hand.kernelRun0_A.sl.HS5_16 (F := Ideal) cc arg10 harg10 x9)) (ix2 d s)
      = x9 (ix3 0 s d) := by
  rw [HS5_eq, rdK, pay543_apply, ldK_apply]
  congr 2
  exact Fin.ext (by show 128 * (s.val / 128) + s.val % 128 = s.val; omega)

theorem sc21 (arg21 : Memref sig Kind.tc Space.vmem S128x8192 .f32) (f : arg21.view.ty.Contents (Elt Ideal)) (d : Fin 128) (r : Fin 8192) :
    arg21.view.read (Elt Ideal) (arg21.view.writes (Elt Ideal) f (Hand.kernelRun0_A.sl.HS6_1 (F := Ideal))) (ix2 d r) = (0 : EReal) := by
  refine (View.read_writes_cons_unit_of_mem arg21.view f _ (k0_pay562 (F := Ideal)) [] (ix2 d r) (ix2 d r) rfl ?_).trans (pay562_apply _)
  intro a
  match a with
  | ⟨0, _⟩ => show d.val = 0 + d.val; omega
  | ⟨1, _⟩ => show r.val = 0 + r.val; omega

theorem sc22 (arg22 : Memref sig Kind.tc Space.vmem S128x2048 .f32) (f : arg22.view.ty.Contents (Elt Ideal)) (d : Fin 128) (s : Fin 2048) :
    arg22.view.read (Elt Ideal) (arg22.view.writes (Elt Ideal) f (Hand.kernelRun0_A.sl.HS7_1 (F := Ideal))) (ix2 d s) = (0 : EReal) := by
  refine (View.read_writes_cons_unit_of_mem arg22.view f _ (k0_pay560 (F := Ideal)) [] (ix2 d s) (ix2 d s) rfl ?_).trans (pay560_apply _)
  intro a
  match a with
  | ⟨0, _⟩ => show d.val = 0 + d.val; omega
  | ⟨1, _⟩ => show s.val = 0 + s.val; omega

end Lists
end Cert.Value
-- ==== Proof.Value.Spec.lean ====
/- The three gradients written as sums over the argument arrays. Both programs are shown to compute these. -/
module

public import Idealize.ShloMosaic.Lib.ValueIdx
public import proofs.«01_k».proof.Proof.Value.Scalar

@[expose] public section

noncomputable section

namespace Cert.Value

open Idealize.ShloMosaic
open scoped BigOperators

/-- The arrays both programs read, by coordinates: token, head, lane. -/
structure Arrays where
  q : Fin 2048 → Fin 32 → Fin 128 → EReal
  qs : Fin 32 → EReal
  k : Fin 2048 → Fin 8 → Fin 128 → EReal
  ks : Fin 8 → EReal
  v : Fin 2048 → Fin 8 → Fin 128 → EReal
  vs : Fin 8 → EReal
  o : Fin 2048 → Fin 32 → Fin 128 → EReal
  lse : Fin 32 → Fin 2048 → EReal
  w : Fin 2048 → Fin 32 → Fin 128 → EReal
  ws : Fin 2048 → EReal

/-- Query head `g` of the group of key head `h`. -/
abbrev qh (h : Fin 8) (g : Fin 4) : Fin 32 := ⟨h.val * 4 + g.val, by omega⟩

/-- The f32 factor 1 / sqrt(128) both programs print. -/
abbrev SM : EReal := Ideal.ofBits .f32 0x3DB504F3#32

namespace Arrays

variable (A : Arrays) (h : Fin 8) (g : Fin 4) (t s : Fin 2048) (d : Fin 128)

/-- The softmax probability before the mask. -/
def pS : EReal :=
  Ideal.exp ((∑ e, A.q t (qh h g) e * A.k s h e) * (A.qs (qh h g) * A.ks h * SM) - A.lse (qh h g) t)

/-- The masked probability: a query sees the keys up to its own position. -/
def lS : EReal := if s.val ≤ t.val then A.pS h g t s else 0

/-- The other factor of the score gradient. -/
def gS : EReal :=
  (∑ e, A.w t (qh h g) e * A.v s h e) * (A.ws t * A.vs h) - A.ws t * ∑ e, A.w t (qh h g) e * A.o t (qh h g) e

/-- The query gradient. -/
def dq : EReal := (∑ s, A.k s h d * (A.lS h g t s * A.gS h g t s)) * (A.ks h * SM)

/-- The key gradient. -/
def dk : EReal := (∑ g, ∑ t, A.q t (qh h g) d * A.qs (qh h g) * (A.lS h g t s * A.gS h g t s)) * SM

/-- The value gradient. -/
def dv : EReal := ∑ g, ∑ t, A.w t (qh h g) d * A.ws t * A.lS h g t s

end Arrays

/-- A sum over the 8192 query rows of a head, row `4 t + g`, as a sum over the group and the tokens. -/
theorem sum_split {M : Type*} [AddCommMonoid M] (f : Fin 8192 → M) (F : Fin 4 → Fin 2048 → M)
    (hF : ∀ r : Fin 8192, f r = F ⟨r.val % 4, by omega⟩ ⟨r.val / 4, by omega⟩) :
    ∑ r, f r = ∑ g, ∑ t, F g t := by
  rw [Finset.sum_comm, ← Fintype.sum_prod_type']
  refine Fintype.sum_equiv (finProdFinEquiv (m := 2048) (n := 4)).symm f _ fun r => ?_
  rw [hF]
  rfl

end Cert.Value
-- ==== Proof.Value.Step.lean ====
/- One pass of a loop of the kernel: which elements of the scratch arrays it rewrites. -/
module

public import proofs.«01_k».proof.Proof.KernelIdeal.Outer
public import proofs.«01_k».proof.Proof.Value.Rows

@[expose] public section

set_option maxRecDepth 16384
set_option maxHeartbeats 4000000

noncomputable section

namespace Cert.Value

open Cert.KernelIdeal Cert.KernelIdeal.Gen
open Idealize.ShloMosaic Idealize.ShloMosaic.TcCoe
open scoped BigOperators

/-! ## Where the two loops read and write -/

theorem trips1 : k0_t1_loop.trips = 8 := by decide +kernel
theorem trips2 : ∀ t : Fin k0_t1_loop.trips, (k0_t2_loop t).trips = t.val := by decide +kernel
theorem trips3 : ∀ t : Fin k0_t1_loop.trips, (k0_t3_loop t).trips = 0 := by decide +kernel

/-- The query block of a trip of the outer loop. -/
abbrev blk (t : Fin k0_t1_loop.trips) : Fin 8 := ⟨t.val, trips1 ▸ t.isLt⟩
/-- The key block of a trip of the inner loop. -/
abbrev kblk (t : Fin k0_t1_loop.trips) (k : Fin (k0_t2_loop t).trips) : Fin 8 :=
  ⟨k.val, lt_trans (trips2 t ▸ k.isLt) (blk t).isLt⟩

theorem off2 : ∀ t : Fin k0_t1_loop.trips, k0_off2 t = ![256 * t.val, 0, 0, 0] := by decide +kernel
theorem off3 : ∀ (t : Fin k0_t1_loop.trips) (k : Fin (k0_t2_loop t).trips), k0_off3 t k = ![0, 256 * k.val, 0] := by decide +kernel
theorem off4 : ∀ t : Fin k0_t1_loop.trips, k0_off4 t = ![1024 * t.val, 0] := by decide +kernel
theorem off5 : ∀ (t : Fin k0_t1_loop.trips) (k : Fin (k0_t2_loop t).trips), k0_off5 t k = ![0, 256 * k.val] := by decide +kernel
theorem off6 : ∀ t : Fin k0_t1_loop.trips, k0_off6 t = ![0, 1024 * t.val] := by decide +kernel
theorem off12 : ∀ t : Fin k0_t1_loop.trips, k0_off12 t = ![256 * t.val, 0, 0, 0] := by decide +kernel
theorem off13 : ∀ t : Fin k0_t1_loop.trips, k0_off13 t = ![0, 256 * t.val, 0] := by decide +kernel
theorem off14 : ∀ t : Fin k0_t1_loop.trips, k0_off14 t = ![1024 * t.val, 0] := by decide +kernel
theorem off15 : ∀ t : Fin k0_t1_loop.trips, k0_off15 t = ![0, 256 * t.val] := by decide +kernel
theorem off16 : ∀ t : Fin k0_t1_loop.trips, k0_off16 t = ![0, 1024 * t.val] := by decide +kernel

section Trips

variable (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
  (coef : FVec Ideal S1024x256 .f32) (b0 b1 : BitVec 32) (X7 : BufTy.Contents (Elt Ideal) arg7.view.ty) (X8 : BufTy.Contents (Elt Ideal) arg8.view.ty) (X10 : BufTy.Contents (Elt Ideal) arg10.view.ty) (X11 : BufTy.Contents (Elt Ideal) arg11.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty)

/-- The softmax probabilities of the head, from the contents the loops read. -/
abbrev pX : Fin 8192 → Fin 2048 → EReal := pU coef (arg7.view.read (Elt Ideal) X7) (arg10.view.read (Elt Ideal) X10) (arg15.view.read (Elt Ideal) X15)
/-- The other factor of the score gradients. -/
abbrev gX : Fin 8192 → Fin 2048 → EReal := gU (arg8.view.read (Elt Ideal) X8) (arg11.view.read (Elt Ideal) X11)
  (arg17.view.read (Elt Ideal) X17) (arg16.view.read (Elt Ideal) X16)

section Inner

variable (t : Fin k0_t1_loop.trips) (w : BitVec 32) (k : Fin (k0_t2_loop t).trips) (f21 : BufTy.Contents (Elt Ideal) arg21.view.ty) (f22 : BufTy.Contents (Elt Ideal) arg22.view.ty) (f23 : BufTy.Contents (Elt Ideal) arg23.view.ty)

/-- One trip of the inner loop adds a key block's share to the query gradient of its query block. -/
theorem t2_21 (d : Fin 128) (r : Fin 8192) :
    arg21.view.read (Elt Ideal) (arg21.view.writes (Elt Ideal) f21 (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 coef b0 b1 t w X7 X8 X10 X11 X15 X16 X17 X18 X19 X20 k f21 f22 f23).1) (ix2 d r)
      = arg21.view.read (Elt Ideal) f21 (ix2 d r) + if r.val / 1024 = t.val then
          ∑ s : Fin 256, arg20.view.read (Elt Ideal) X20 (ix2 d (key8 (kblk t k) s))
            * (pX arg7 arg10 arg15 coef X7 X10 X15 r (key8 (kblk t k) s) * gX arg8 arg11 arg16 arg17 X8 X11 X16 X17 r (key8 (kblk t k) s)) else 0 := by
  unfold tripL_k0_t2 trip_k0_t2
  refine (st_rowT arg21.view f21 (blk t) (off6 t) _ _ [] d r).trans ?_
  split
  · rename_i h
    have hr : row8 (blk t) ⟨r.val % 1024, by omega⟩ = r := Fin.ext (by show 1024 * t.val + r.val % 1024 = r.val; have : r.val / 1024 = t.val := h; omega)

    refine (pay10_apply _ _ _ d _).trans ?_
    refine congrArg₂ (· + ·) ((ld_rowT _ _ (blk t) (off6 t) _ d _).trans (by rw [hr])) (Finset.sum_congr rfl fun s _ => ?_)
    refine congrArg₂ (· * ·) (ld_keyT _ _ (kblk t k) (off5 t k) _ d s) ?_
    refine (pay2_apply _ _ _ _ _ _ _ _ _ s).trans (congrArg₂ (· * ·) ?_ ?_)
    · rw [pT_eq coef _ _ _ (arg7.view.read (Elt Ideal) X7) (arg10.view.read (Elt Ideal) X10) (arg15.view.read (Elt Ideal) X15) (blk t) (kblk t k)
        (fun a g d => ld_q _ _ (blk t) (off2 t) _ a g d) (fun s d => ld_k _ _ (kblk t k) (off3 t k) _ s d)
        (fun r c => ld_rows _ _ (blk t) (off4 t) _ r c), hr]
    · rw [gT_eq _ _ _ _ (arg8.view.read (Elt Ideal) X8) (arg11.view.read (Elt Ideal) X11) (arg17.view.read (Elt Ideal) X17)
        (arg16.view.read (Elt Ideal) X16) (blk t) (kblk t k)
        (fun a g d => ld_q _ _ (blk t) (off2 t) _ a g d) (fun s d => ld_k _ _ (kblk t k) (off3 t k) _ s d)
        (fun r c => ld_rows _ _ (blk t) (off4 t) _ r c) (fun r c => ld_rows _ _ (blk t) (off4 t) _ r c), hr]
  · rename_i h
    rw [add_zero]; rfl

/-- … to the key gradient of its key block … -/
theorem t2_22 (d : Fin 128) (s : Fin 2048) :
    arg22.view.read (Elt Ideal) (arg22.view.writes (Elt Ideal) f22 (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 coef b0 b1 t w X7 X8 X10 X11 X15 X16 X17 X18 X19 X20 k f21 f22 f23).2.1) (ix2 d s)
      = arg22.view.read (Elt Ideal) f22 (ix2 d s) + if s.val / 256 = k.val then
          ∑ r : Fin 1024, arg18.view.read (Elt Ideal) X18 (ix2 d (row8 (blk t) r))
            * (pX arg7 arg10 arg15 coef X7 X10 X15 (row8 (blk t) r) s * gX arg8 arg11 arg16 arg17 X8 X11 X16 X17 (row8 (blk t) r) s) else 0 := by
  unfold tripL_k0_t2 trip_k0_t2
  refine (st_keyT arg22.view f22 (kblk t k) (off5 t k) _ _ [] d s).trans ?_
  split
  · rename_i h
    have hs : key8 (kblk t k) ⟨s.val % 256, by omega⟩ = s := Fin.ext (by show 256 * k.val + s.val % 256 = s.val; have : s.val / 256 = k.val := h; omega)

    refine (pay8_apply _ _ _ d _).trans ?_
    refine congrArg₂ (· + ·) ((ld_keyT _ _ (kblk t k) (off5 t k) _ d _).trans (by rw [hs])) (Finset.sum_congr rfl fun r _ => ?_)
    refine congrArg₂ (· * ·) (ld_rowT _ _ (blk t) (off6 t) _ d r) ?_
    refine (pay2_apply _ _ _ _ _ _ _ _ r _).trans (congrArg₂ (· * ·) ?_ ?_)
    · rw [pT_eq coef _ _ _ (arg7.view.read (Elt Ideal) X7) (arg10.view.read (Elt Ideal) X10) (arg15.view.read (Elt Ideal) X15) (blk t) (kblk t k)
        (fun a g d => ld_q _ _ (blk t) (off2 t) _ a g d) (fun s d => ld_k _ _ (kblk t k) (off3 t k) _ s d)
        (fun r c => ld_rows _ _ (blk t) (off4 t) _ r c), hs]
    · rw [gT_eq _ _ _ _ (arg8.view.read (Elt Ideal) X8) (arg11.view.read (Elt Ideal) X11) (arg17.view.read (Elt Ideal) X17)
        (arg16.view.read (Elt Ideal) X16) (blk t) (kblk t k)
        (fun a g d => ld_q _ _ (blk t) (off2 t) _ a g d) (fun s d => ld_k _ _ (kblk t k) (off3 t k) _ s d)
        (fun r c => ld_rows _ _ (blk t) (off4 t) _ r c) (fun r c => ld_rows _ _ (blk t) (off4 t) _ r c), hs]
  · rename_i h
    rw [add_zero]; rfl

/-- … and to the value gradient of its key block. -/
theorem t2_23 (d : Fin 128) (s : Fin 2048) :
    arg23.view.read (Elt Ideal) (arg23.view.writes (Elt Ideal) f23 (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 coef b0 b1 t w X7 X8 X10 X11 X15 X16 X17 X18 X19 X20 k f21 f22 f23).2.2) (ix2 d s)
      = arg23.view.read (Elt Ideal) f23 (ix2 d s) + if s.val / 256 = k.val then
          ∑ r : Fin 1024, arg19.view.read (Elt Ideal) X19 (ix2 d (row8 (blk t) r)) * pX arg7 arg10 arg15 coef X7 X10 X15 (row8 (blk t) r) s else 0 := by
  unfold tripL_k0_t2 trip_k0_t2
  refine (st_keyT arg23.view f23 (kblk t k) (off5 t k) _ _ [] d s).trans ?_
  split
  · rename_i h
    have hs : key8 (kblk t k) ⟨s.val % 256, by omega⟩ = s := Fin.ext (by show 256 * k.val + s.val % 256 = s.val; have : s.val / 256 = k.val := h; omega)

    refine (pay8_apply _ _ _ d _).trans ?_
    refine congrArg₂ (· + ·) ((ld_keyT _ _ (kblk t k) (off5 t k) _ d _).trans (by rw [hs])) (Finset.sum_congr rfl fun r _ => ?_)
    refine congrArg₂ (· * ·) (ld_rowT _ _ (blk t) (off6 t) _ d r) ?_
    refine (pay1_apply _ _ _ _ r _).trans ?_
    rw [pT_eq coef _ _ _ (arg7.view.read (Elt Ideal) X7) (arg10.view.read (Elt Ideal) X10) (arg15.view.read (Elt Ideal) X15) (blk t) (kblk t k)
        (fun a g d => ld_q _ _ (blk t) (off2 t) _ a g d) (fun s d => ld_k _ _ (kblk t k) (off3 t k) _ s d)
        (fun r c => ld_rows _ _ (blk t) (off4 t) _ r c), hs]
  · rename_i h
    rw [add_zero]; rfl

end Inner

end Trips

end Cert.Value
-- ==== Proof.Value.Sums.lean ====
/- Sums over blocks of keys put together into the sums over all keys. -/
module

public import proofs.«01_k».proof.Proof.Value.Rows

@[expose] public section

noncomputable section

namespace Cert.Value

open Cert.KernelIdeal
open Idealize.ShloMosaic
open scoped BigOperators

/-! ## Sums by blocks, and the blocks above the diagonal -/

theorem lt_succ_split (a n : ℕ) (x A : EReal) :
    x + (if a < n then A else 0) + (if a = n then A else 0) = x + if a < n + 1 then A else 0 := by
  rcases lt_trichotomy a n with h | h | h
  · rw [if_pos h, if_neg (by omega), if_pos (by omega), add_zero]
  · rw [if_neg (by omega), if_pos h, if_pos (by omega), add_zero]
  · rw [if_neg (by omega), if_neg (by omega), if_neg (by omega), add_zero, add_zero]

/-- A sum over blocks of one length is the sum over all of them. -/
theorem sum_blocks (m : ℕ) (f : ℕ → EReal) (n : ℕ) :
    ∑ k ∈ Finset.range n, ∑ s : Fin m, f (m * k + s.val) = ∑ j ∈ Finset.range (m * n), f j := by
  induction n with
  | zero => simp
  | succ n ih =>
    rw [Finset.sum_range_succ, ih, Nat.mul_succ, Finset.sum_range_add, Finset.sum_range (fun x => f (m * n + x))]

theorem sum_keys (F : Fin 2048 → EReal) :
    ∑ k ∈ Finset.range 8, ∑ s : Fin 256, F (key8 (Fin.ofNat 8 k) s) = ∑ s : Fin 2048, F s := by
  rw [Finset.sum_congr (s₂ := Finset.range 8) (g := fun k => ∑ s : Fin 256, (fun j => F (Fin.ofNat 2048 j)) (256 * k + s.val)) rfl, sum_blocks 256 (fun j => F (Fin.ofNat 2048 j)) 8,
    Finset.sum_range]
  · refine Finset.sum_congr rfl fun s _ => congrArg F (Fin.ext ?_)
    exact Nat.mod_eq_of_lt s.isLt
  · intro k hk
    have := Finset.mem_range.mp hk
    refine Finset.sum_congr rfl fun s _ => congrArg F (Fin.ext ?_)
    show 256 * (k % 8) + s.val = (256 * k + s.val) % 2048
    omega

theorem sum_rows (F : Fin 8192 → EReal) :
    ∑ k ∈ Finset.range 8, ∑ r : Fin 1024, F (row8 (Fin.ofNat 8 k) r) = ∑ r : Fin 8192, F r := by
  rw [Finset.sum_congr (s₂ := Finset.range 8) (g := fun k => ∑ s : Fin 1024, (fun j => F (Fin.ofNat 8192 j)) (1024 * k + s.val)) rfl, sum_blocks 1024 (fun j => F (Fin.ofNat 8192 j)) 8,
    Finset.sum_range]
  · refine Finset.sum_congr rfl fun s _ => congrArg F (Fin.ext ?_)
    exact Nat.mod_eq_of_lt s.isLt
  · intro k hk
    have := Finset.mem_range.mp hk
    refine Finset.sum_congr rfl fun s _ => congrArg F (Fin.ext ?_)
    show 1024 * (k % 8) + s.val = (1024 * k + s.val) % 8192
    omega

/-- The part of `P` at and below the diagonal: the key is no later than the query token of the row. -/
def low (P : Fin 8192 → Fin 2048 → EReal) (r : Fin 8192) (s : Fin 2048) : EReal := if s.val ≤ r.val / 4 then P r s else 0

/-- A query block's contribution to a key: its tile below the diagonal whole, its diagonal tile masked, nothing above. -/
theorem low_rows (P : Fin 8192 → Fin 2048 → EReal) (W : Fin 1024 → EReal) (G : Fin 1024 → EReal) (t : Fin 8) (s : Fin 2048) (x : EReal) :
    x + (if s.val / 256 < t.val then ∑ r : Fin 1024, W r * (P (row8 t r) s * G r) else 0)
      + (if s.val / 256 = t.val then ∑ r : Fin 1024, W r * ((if s.val % 256 ≤ r.val / 4 then P (row8 t r) s else 0) * G r) else 0)
      = x + ∑ r : Fin 1024, W r * (low P (row8 t r) s * G r) := by
  rcases lt_trichotomy (s.val / 256) t.val with h | h | h
  · rw [if_pos h, if_neg (by omega), add_zero]
    refine congrArg (x + ·) (Finset.sum_congr rfl fun r _ => ?_)
    rw [low, if_pos (by show s.val ≤ (1024 * t.val + r.val) / 4; omega)]
  · rw [if_neg (by omega), if_pos h, add_zero]
    refine congrArg (x + ·) (Finset.sum_congr rfl fun r _ => ?_)
    have e : (s.val % 256 ≤ r.val / 4) = (s.val ≤ (row8 t r).val / 4) := by
      refine propext ?_
      show _ ↔ s.val ≤ (1024 * t.val + r.val) / 4
      omega
    simp only [low, e]
  · rw [if_neg (by omega), if_neg (by omega), add_zero]
    refine congrArg (x + ·) ?_
    refine (Finset.sum_eq_zero fun r _ => ?_).symm
    rw [low, if_neg (by show ¬ s.val ≤ (1024 * t.val + r.val) / 4; omega), zero_mul, mul_zero]

/-- The same with no further factor. -/
theorem low_rows' (P : Fin 8192 → Fin 2048 → EReal) (W : Fin 1024 → EReal) (t : Fin 8) (s : Fin 2048) (x : EReal) :
    x + (if s.val / 256 < t.val then ∑ r : Fin 1024, W r * P (row8 t r) s else 0)
      + (if s.val / 256 = t.val then ∑ r : Fin 1024, W r * (if s.val % 256 ≤ r.val / 4 then P (row8 t r) s else 0) else 0)
      = x + ∑ r : Fin 1024, W r * low P (row8 t r) s := by
  have := low_rows P W (fun _ => 1) t s x
  simpa only [mul_one] using this

/-- The key blocks a query block reads: those before its own whole, its own masked; the later ones hold nothing. -/
theorem low_keys (P G : Fin 8192 → Fin 2048 → EReal) (W : Fin 2048 → EReal) (t : Fin 8) (r : Fin 8192) (h : r.val / 1024 = t.val) :
    (∑ k ∈ Finset.range t.val, ∑ s : Fin 256, W (key8 (Fin.ofNat 8 k) s) * (P r (key8 (Fin.ofNat 8 k) s) * G r (key8 (Fin.ofNat 8 k) s)))
      + ∑ s : Fin 256, W (key8 t s) * ((if s.val ≤ r.val % 1024 / 4 then P r (key8 t s) else 0) * G r (key8 t s))
      = ∑ s : Fin 2048, W s * (low P r s * G r s) := by
  rw [← sum_keys, ← Finset.sum_subset (Finset.range_subset_range.mpr (show t.val + 1 ≤ 8 by omega)), Finset.sum_range_succ]
  · refine congrArg₂ (· + ·) (Finset.sum_congr rfl fun k hk => Finset.sum_congr rfl fun s _ => ?_) (Finset.sum_congr rfl fun s _ => ?_)
    · have := Finset.mem_range.mp hk
      rw [low, if_pos (by show 256 * (k % 8) + s.val ≤ r.val / 4; omega)]
    · have et : Fin.ofNat 8 t.val = t := Fin.ext (Nat.mod_eq_of_lt t.isLt)
      have e : (s.val ≤ r.val % 1024 / 4) = ((key8 t s).val ≤ r.val / 4) := by
        refine propext ?_
        show _ ↔ 256 * t.val + s.val ≤ r.val / 4
        omega
      rw [et]; simp only [low, e]
  · intro k _ hk
    have h1 : k < 8 := Finset.mem_range.mp ‹_›
    have h2 : ¬ k < t.val + 1 := fun h => hk (Finset.mem_range.mpr h)
    refine Finset.sum_eq_zero fun s _ => ?_
    rw [low, if_neg (by show ¬ 256 * (k % 8) + s.val ≤ r.val / 4; omega), zero_mul, mul_zero]

end Cert.Value
-- ==== Proof.Value.Loop.lean ====
/- The loops of the kernel: what the scratch arrays hold after any number of passes. -/
module

public import proofs.«01_k».proof.Proof.KernelIdeal.Outer
public import proofs.«01_k».proof.Proof.Value.Step
public import proofs.«01_k».proof.Proof.Value.Sums

@[expose] public section

set_option maxRecDepth 16384
set_option maxHeartbeats 4000000

noncomputable section

namespace Cert.Value

open Cert.KernelIdeal Cert.KernelIdeal.Gen
open Idealize.ShloMosaic Idealize.ShloMosaic.TcCoe
open scoped BigOperators

section Loops

variable (𝒱 : Variants) (c : Dev nD) (bd : Option 𝒱.V) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
  (X7 : BufTy.Contents (Elt Ideal) arg7.view.ty) (X8 : BufTy.Contents (Elt Ideal) arg8.view.ty) (X10 : BufTy.Contents (Elt Ideal) arg10.view.ty) (X11 : BufTy.Contents (Elt Ideal) arg11.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty)

section Inner

variable (coef : FVec Ideal S1024x256 .f32) (b0 b1 : BitVec 32) (t : Fin k0_t1_loop.trips) (w : BitVec 32) (G21 : BufTy.Contents (Elt Ideal) arg21.view.ty) (G22 : BufTy.Contents (Elt Ideal) arg22.view.ty) (G23 : BufTy.Contents (Elt Ideal) arg23.view.ty)

/-- The query gradient after the inner loop's first `n` trips. -/
theorem in_21 (n : ℕ) (hn : n ≤ t.val) (d : Fin 128) (r : Fin 8192) :
    arg21.view.read (Elt Ideal) (arg21.view.writes (Elt Ideal) G21 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 coef b0 b1 t w X7 X8 X10 X11 X15 X16 X17 X18 X19 X20 G21 G22 G23 n).1) (ix2 d r)
      = arg21.view.read (Elt Ideal) G21 (ix2 d r) + if r.val / 1024 = t.val then
          ∑ k ∈ Finset.range n, ∑ s : Fin 256, arg20.view.read (Elt Ideal) X20 (ix2 d (key8 (Fin.ofNat 8 k) s))
            * (pX arg7 arg10 arg15 coef X7 X10 X15 r (key8 (Fin.ofNat 8 k) s) * gX arg8 arg11 arg16 arg17 X8 X11 X16 X17 r (key8 (Fin.ofNat 8 k) s)) else 0 := by
  induction n with
  | zero => simp [pb_k0_t2]
  | succ n ih =>
    have hk : n < (k0_t2_loop t).trips := by rw [trips2]; omega
    rw [pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 coef b0 b1 t w X7 X8 X10 X11 X15 X16 X17 X18 X19 X20 G21 G22 G23 ⟨n, hk⟩]
    dsimp only
    rw [View.writes_append, t2_21, ih (by omega), add_assoc]
    refine congrArg (_ + ·) ?_
    have e : kblk t ⟨n, hk⟩ = Fin.ofNat 8 n := Fin.ext (Nat.mod_eq_of_lt (kblk t ⟨n, hk⟩).isLt).symm
    rw [Finset.sum_range_succ, e]
    split <;> simp

/-- The key gradient after the inner loop's first `n` trips. -/
theorem in_22 (n : ℕ) (hn : n ≤ t.val) (d : Fin 128) (s : Fin 2048) :
    arg22.view.read (Elt Ideal) (arg22.view.writes (Elt Ideal) G22 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 coef b0 b1 t w X7 X8 X10 X11 X15 X16 X17 X18 X19 X20 G21 G22 G23 n).2.1) (ix2 d s)
      = arg22.view.read (Elt Ideal) G22 (ix2 d s) + if s.val / 256 < n then
          ∑ r : Fin 1024, arg18.view.read (Elt Ideal) X18 (ix2 d (row8 (blk t) r)) * (pX arg7 arg10 arg15 coef X7 X10 X15 (row8 (blk t) r) s * gX arg8 arg11 arg16 arg17 X8 X11 X16 X17 (row8 (blk t) r) s) else 0 := by
  induction n with
  | zero => simp [pb_k0_t2]
  | succ n ih =>
    have hk : n < (k0_t2_loop t).trips := by rw [trips2]; omega
    rw [pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 coef b0 b1 t w X7 X8 X10 X11 X15 X16 X17 X18 X19 X20 G21 G22 G23 ⟨n, hk⟩]
    dsimp only
    rw [View.writes_append, t2_22, ih (by omega)]
    exact lt_succ_split _ _ _ _

/-- The value gradient after the inner loop's first `n` trips. -/
theorem in_23 (n : ℕ) (hn : n ≤ t.val) (d : Fin 128) (s : Fin 2048) :
    arg23.view.read (Elt Ideal) (arg23.view.writes (Elt Ideal) G23 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 coef b0 b1 t w X7 X8 X10 X11 X15 X16 X17 X18 X19 X20 G21 G22 G23 n).2.2) (ix2 d s)
      = arg23.view.read (Elt Ideal) G23 (ix2 d s) + if s.val / 256 < n then
          ∑ r : Fin 1024, arg19.view.read (Elt Ideal) X19 (ix2 d (row8 (blk t) r)) * pX arg7 arg10 arg15 coef X7 X10 X15 (row8 (blk t) r) s else 0 := by
  induction n with
  | zero => simp [pb_k0_t2]
  | succ n ih =>
    have hk : n < (k0_t2_loop t).trips := by rw [trips2]; omega
    rw [pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 coef b0 b1 t w X7 X8 X10 X11 X15 X16 X17 X18 X19 X20 G21 G22 G23 ⟨n, hk⟩]
    dsimp only
    rw [View.writes_append, t2_23, ih (by omega)]
    exact lt_succ_split _ _ _ _

/-- The masked loop after the diagonal has no trip. -/
theorem no_t3 (w' : BitVec 32) (n : ℕ) (hn : n = 0) :
    pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 coef b0 b1 t w w' X7 X8 X10 X11 X15 X16 X17 X18 X19 X20 G21 G22 G23 n = ([], [], []) := by
  subst hn; rfl

end Inner

section Outer

variable (v3707 : FVec Ideal S128x2048 .f32) (v3712 : Vec Ideal S1x8x128 .f32) (t : Fin k0_t1_loop.trips) (f21 : BufTy.Contents (Elt Ideal) arg21.view.ty) (f22 : BufTy.Contents (Elt Ideal) arg22.view.ty) (f23 : BufTy.Contents (Elt Ideal) arg23.view.ty)

/-- One trip of the outer loop completes the query gradient of its query block. -/
theorem t1_21 (d : Fin 128) (r : Fin 8192) :
    arg21.view.read (Elt Ideal) (arg21.view.writes (Elt Ideal) f21 (Hand.tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X7 X8 X10 X11 X15 X16 X17 X18 X19 X20 t f21 f22 f23).1) (ix2 d r)
      = arg21.view.read (Elt Ideal) f21 (ix2 d r) + if r.val / 1024 = t.val then
          ∑ s : Fin 2048, arg20.view.read (Elt Ideal) X20 (ix2 d s) * (low (pX arg7 arg10 arg15 (k0_pay563 v3712) X7 X10 X15) r s * gX arg8 arg11 arg16 arg17 X8 X11 X16 X17 r s) else 0 := by
  unfold Hand.tripL_k0_t1 Hand.trip_k0_t1
  refine (st_rowT arg21.view f21 (blk t) (off16 t) _ _ _ d r).trans ?_
  simp only [no_t3 (hn := trips3 t), List.nil_append]
  split
  · rename_i h
    have hr : row8 (blk t) ⟨r.val % 1024, by omega⟩ = r := Fin.ext (by show 1024 * t.val + r.val % 1024 = r.val; have : r.val / 1024 = t.val := h; omega)
    rw [← low_keys (pX arg7 arg10 arg15 (k0_pay563 v3712) X7 X10 X15) (gX arg8 arg11 arg16 arg17 X8 X11 X16 X17) (fun s => arg20.view.read (Elt Ideal) X20 (ix2 d s)) (blk t) r h, ← add_assoc]
    refine (pay10_apply _ _ _ d _).trans ?_
    refine congrArg₂ (· + ·) ?_ (Finset.sum_congr rfl fun s _ => ?_)
    · unfold Hand.trip_k0_t1.sl.v4684
      simp only [no_t3 (hn := trips3 t), List.nil_append]
      refine (ld_rowT _ _ (blk t) (off16 t) _ d _).trans ?_
      rw [hr]
      refine (congrArg (fun n => arg21.view.read (Elt Ideal) (arg21.view.writes (Elt Ideal) f21 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay563 v3712) 0#32 1#32 t _ X7 X8 X10 X11 X15 X16 X17 X18 X19 X20 f21 f22 f23 n).1) (ix2 d r)) (trips2 t)).trans ?_
      refine (in_21 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X7 X8 X10 X11 X15 X16 X17 X18 X19 X20 (k0_pay563 v3712) 0#32 1#32 t _ f21 f22 f23 t.val le_rfl d r).trans ?_
      rw [if_pos h]
    · refine congrArg₂ (· * ·) (ld_keyT _ _ (blk t) (off15 t) _ d s) ?_
      refine (pay18_apply _ _ _ _ _ _ _ _ _ s).trans (congrArg₂ (· * ·) ?_ ?_)
      · rw [pT_eq (k0_pay563 v3712) _ _ _ (arg7.view.read (Elt Ideal) X7) (arg10.view.read (Elt Ideal) X10) (arg15.view.read (Elt Ideal) X15) (blk t) (blk t)
        (fun a g d => ld_q _ _ (blk t) (off12 t) _ a g d) (fun s d => ld_k _ _ (blk t) (off13 t) _ s d)
        (fun r c => ld_rows _ _ (blk t) (off14 t) _ r c), hr]
      · refine (gT_eq _ _ _ _ (arg8.view.read (Elt Ideal) X8) (arg11.view.read (Elt Ideal) X11) (arg17.view.read (Elt Ideal) X17)
        (arg16.view.read (Elt Ideal) X16) (blk t) (blk t)
        (fun a g d => ld_q _ _ (blk t) (off12 t) _ a g d) (fun s d => ld_k _ _ (blk t) (off13 t) _ s d)
        (fun r c => ld_rows _ _ (blk t) (off14 t) _ r c) (fun r c => ld_rows _ _ (blk t) (off14 t) _ r c) _ _).trans ?_
        rw [hr]
  · rename_i h
    rw [add_zero]
    refine (congrArg (fun n => arg21.view.read (Elt Ideal) (arg21.view.writes (Elt Ideal) f21 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay563 v3712) 0#32 1#32 t _ X7 X8 X10 X11 X15 X16 X17 X18 X19 X20 f21 f22 f23 n).1) (ix2 d r)) (trips2 t)).trans ?_
    refine (in_21 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X7 X8 X10 X11 X15 X16 X17 X18 X19 X20 (k0_pay563 v3712) 0#32 1#32 t _ f21 f22 f23 t.val le_rfl d r).trans ?_
    rw [if_neg h, add_zero]

/-- … adds its query block to every key gradient … -/
theorem t1_22 (d : Fin 128) (s : Fin 2048) :
    arg22.view.read (Elt Ideal) (arg22.view.writes (Elt Ideal) f22 (Hand.tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X7 X8 X10 X11 X15 X16 X17 X18 X19 X20 t f21 f22 f23).2.1) (ix2 d s)
      = arg22.view.read (Elt Ideal) f22 (ix2 d s) + ∑ r : Fin 1024, arg18.view.read (Elt Ideal) X18 (ix2 d (row8 (blk t) r)) * (low (pX arg7 arg10 arg15 (k0_pay563 v3712) X7 X10 X15) (row8 (blk t) r) s * gX arg8 arg11 arg16 arg17 X8 X11 X16 X17 (row8 (blk t) r) s) := by
  rw [← low_rows (pX arg7 arg10 arg15 (k0_pay563 v3712) X7 X10 X15) (fun r => arg18.view.read (Elt Ideal) X18 (ix2 d (row8 (blk t) r))) (fun r => gX arg8 arg11 arg16 arg17 X8 X11 X16 X17 (row8 (blk t) r) s) (blk t) s]
  unfold Hand.tripL_k0_t1 Hand.trip_k0_t1
  refine (st_keyT arg22.view f22 (blk t) (off15 t) _ _ _ d s).trans ?_
  simp only [no_t3 (hn := trips3 t), List.nil_append]
  split
  · rename_i h
    have hs : key8 (blk t) ⟨s.val % 256, by omega⟩ = s := Fin.ext (by show 256 * t.val + s.val % 256 = s.val; have : s.val / 256 = t.val := h; omega)
    refine (pay8_apply _ _ _ d _).trans ?_
    refine congrArg₂ (· + ·) ?_ (Finset.sum_congr rfl fun r _ => ?_)
    · unfold Hand.trip_k0_t1.sl.v4674
      simp only [no_t3 (hn := trips3 t), List.nil_append]
      refine (ld_keyT _ _ (blk t) (off15 t) _ d _).trans ?_
      rw [hs]
      refine (congrArg (fun n => arg22.view.read (Elt Ideal) (arg22.view.writes (Elt Ideal) f22 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay563 v3712) 0#32 1#32 t _ X7 X8 X10 X11 X15 X16 X17 X18 X19 X20 f21 f22 f23 n).2.1) (ix2 d s)) (trips2 t)).trans ?_
      exact in_22 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X7 X8 X10 X11 X15 X16 X17 X18 X19 X20 (k0_pay563 v3712) 0#32 1#32 t _ f21 f22 f23 t.val le_rfl d s
    · refine congrArg₂ (· * ·) (ld_rowT _ _ (blk t) (off16 t) _ d r) ?_
      refine (pay18_apply _ _ _ _ _ _ _ _ r _).trans (congrArg₂ (· * ·) ?_ ?_)
      · rw [pT_eq (k0_pay563 v3712) _ _ _ (arg7.view.read (Elt Ideal) X7) (arg10.view.read (Elt Ideal) X10) (arg15.view.read (Elt Ideal) X15) (blk t) (blk t)
        (fun a g d => ld_q _ _ (blk t) (off12 t) _ a g d) (fun s d => ld_k _ _ (blk t) (off13 t) _ s d)
        (fun r c => ld_rows _ _ (blk t) (off14 t) _ r c), hs]
      · refine (gT_eq _ _ _ _ (arg8.view.read (Elt Ideal) X8) (arg11.view.read (Elt Ideal) X11) (arg17.view.read (Elt Ideal) X17)
        (arg16.view.read (Elt Ideal) X16) (blk t) (blk t)
        (fun a g d => ld_q _ _ (blk t) (off12 t) _ a g d) (fun s d => ld_k _ _ (blk t) (off13 t) _ s d)
        (fun r c => ld_rows _ _ (blk t) (off14 t) _ r c) (fun r c => ld_rows _ _ (blk t) (off14 t) _ r c) _ _).trans ?_
        rw [hs]
  · rename_i h
    rw [add_zero]
    refine (congrArg (fun n => arg22.view.read (Elt Ideal) (arg22.view.writes (Elt Ideal) f22 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay563 v3712) 0#32 1#32 t _ X7 X8 X10 X11 X15 X16 X17 X18 X19 X20 f21 f22 f23 n).2.1) (ix2 d s)) (trips2 t)).trans ?_
    exact in_22 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X7 X8 X10 X11 X15 X16 X17 X18 X19 X20 (k0_pay563 v3712) 0#32 1#32 t _ f21 f22 f23 t.val le_rfl d s

/-- … and to every value gradient. -/
theorem t1_23 (d : Fin 128) (s : Fin 2048) :
    arg23.view.read (Elt Ideal) (arg23.view.writes (Elt Ideal) f23 (Hand.tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X7 X8 X10 X11 X15 X16 X17 X18 X19 X20 t f21 f22 f23).2.2) (ix2 d s)
      = arg23.view.read (Elt Ideal) f23 (ix2 d s) + ∑ r : Fin 1024, arg19.view.read (Elt Ideal) X19 (ix2 d (row8 (blk t) r)) * low (pX arg7 arg10 arg15 (k0_pay563 v3712) X7 X10 X15) (row8 (blk t) r) s := by
  rw [← low_rows' (pX arg7 arg10 arg15 (k0_pay563 v3712) X7 X10 X15) (fun r => arg19.view.read (Elt Ideal) X19 (ix2 d (row8 (blk t) r))) (blk t) s]
  unfold Hand.tripL_k0_t1 Hand.trip_k0_t1
  refine (st_keyT arg23.view f23 (blk t) (off15 t) _ _ _ d s).trans ?_
  simp only [no_t3 (hn := trips3 t), List.nil_append]
  split
  · rename_i h
    have hs : key8 (blk t) ⟨s.val % 256, by omega⟩ = s := Fin.ext (by show 256 * t.val + s.val % 256 = s.val; have : s.val / 256 = t.val := h; omega)
    refine (pay8_apply _ _ _ d _).trans ?_
    refine congrArg₂ (· + ·) ?_ (Finset.sum_congr rfl fun r _ => ?_)
    · unfold Hand.trip_k0_t1.sl.v4664
      simp only [no_t3 (hn := trips3 t), List.nil_append]
      refine (ld_keyT _ _ (blk t) (off15 t) _ d _).trans ?_
      rw [hs]
      refine (congrArg (fun n => arg23.view.read (Elt Ideal) (arg23.view.writes (Elt Ideal) f23 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay563 v3712) 0#32 1#32 t _ X7 X8 X10 X11 X15 X16 X17 X18 X19 X20 f21 f22 f23 n).2.2) (ix2 d s)) (trips2 t)).trans ?_
      exact in_23 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X7 X8 X10 X11 X15 X16 X17 X18 X19 X20 (k0_pay563 v3712) 0#32 1#32 t _ f21 f22 f23 t.val le_rfl d s
    · refine congrArg₂ (· * ·) (ld_rowT _ _ (blk t) (off16 t) _ d r) ?_
      refine (pay17_apply _ _ _ _ r _).trans ?_
      rw [pT_eq (k0_pay563 v3712) _ _ _ (arg7.view.read (Elt Ideal) X7) (arg10.view.read (Elt Ideal) X10) (arg15.view.read (Elt Ideal) X15) (blk t) (blk t)
        (fun a g d => ld_q _ _ (blk t) (off12 t) _ a g d) (fun s d => ld_k _ _ (blk t) (off13 t) _ s d)
        (fun r c => ld_rows _ _ (blk t) (off14 t) _ r c), hs]
  · rename_i h
    rw [add_zero]
    refine (congrArg (fun n => arg23.view.read (Elt Ideal) (arg23.view.writes (Elt Ideal) f23 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (k0_pay563 v3712) 0#32 1#32 t _ X7 X8 X10 X11 X15 X16 X17 X18 X19 X20 f21 f22 f23 n).2.2) (ix2 d s)) (trips2 t)).trans ?_
    exact in_23 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 X7 X8 X10 X11 X15 X16 X17 X18 X19 X20 (k0_pay563 v3712) 0#32 1#32 t _ f21 f22 f23 t.val le_rfl d s

end Outer

section All

variable (v3707 : FVec Ideal S128x2048 .f32) (v3712 : Vec Ideal S1x8x128 .f32) (G21 : BufTy.Contents (Elt Ideal) arg21.view.ty) (G22 : BufTy.Contents (Elt Ideal) arg22.view.ty) (G23 : BufTy.Contents (Elt Ideal) arg23.view.ty)

/-- The query gradient after the outer loop's first `n` trips. -/
theorem out_21 (n : ℕ) (hn : n ≤ 8) (d : Fin 128) (r : Fin 8192) :
    arg21.view.read (Elt Ideal) (arg21.view.writes (Elt Ideal) G21 (Hand.pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X7 X8 X10 X11 X15 X16 X17 X18 X19 X20 G21 G22 G23 n).1) (ix2 d r)
      = arg21.view.read (Elt Ideal) G21 (ix2 d r) + if r.val / 1024 < n then
          ∑ s : Fin 2048, arg20.view.read (Elt Ideal) X20 (ix2 d s) * (low (pX arg7 arg10 arg15 (k0_pay563 v3712) X7 X10 X15) r s * gX arg8 arg11 arg16 arg17 X8 X11 X16 X17 r s) else 0 := by
  induction n with
  | zero => simp [Hand.pb_k0_t1]
  | succ n ih =>
    have hk : n < k0_t1_loop.trips := by rw [trips1]; omega
    rw [Hand.pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X7 X8 X10 X11 X15 X16 X17 X18 X19 X20 G21 G22 G23 ⟨n, hk⟩]
    dsimp only
    rw [View.writes_append, t1_21, ih (by omega)]
    exact lt_succ_split _ _ _ _

/-- The key gradient after the outer loop's first `n` trips. -/
theorem out_22 (n : ℕ) (hn : n ≤ 8) (d : Fin 128) (s : Fin 2048) :
    arg22.view.read (Elt Ideal) (arg22.view.writes (Elt Ideal) G22 (Hand.pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X7 X8 X10 X11 X15 X16 X17 X18 X19 X20 G21 G22 G23 n).2.1) (ix2 d s)
      = arg22.view.read (Elt Ideal) G22 (ix2 d s) + ∑ k ∈ Finset.range n, ∑ r : Fin 1024, arg18.view.read (Elt Ideal) X18 (ix2 d (row8 (Fin.ofNat 8 k) r)) * (low (pX arg7 arg10 arg15 (k0_pay563 v3712) X7 X10 X15) (row8 (Fin.ofNat 8 k) r) s * gX arg8 arg11 arg16 arg17 X8 X11 X16 X17 (row8 (Fin.ofNat 8 k) r) s) := by
  induction n with
  | zero => simp [Hand.pb_k0_t1]
  | succ n ih =>
    have hk : n < k0_t1_loop.trips := by rw [trips1]; omega
    rw [Hand.pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X7 X8 X10 X11 X15 X16 X17 X18 X19 X20 G21 G22 G23 ⟨n, hk⟩]
    dsimp only
    have e : blk ⟨n, hk⟩ = Fin.ofNat 8 n := Fin.ext (Nat.mod_eq_of_lt (blk ⟨n, hk⟩).isLt).symm
    rw [View.writes_append, t1_22, ih (by omega), Finset.sum_range_succ, add_assoc, e]

/-- The value gradient after the outer loop's first `n` trips. -/
theorem out_23 (n : ℕ) (hn : n ≤ 8) (d : Fin 128) (s : Fin 2048) :
    arg23.view.read (Elt Ideal) (arg23.view.writes (Elt Ideal) G23 (Hand.pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X7 X8 X10 X11 X15 X16 X17 X18 X19 X20 G21 G22 G23 n).2.2) (ix2 d s)
      = arg23.view.read (Elt Ideal) G23 (ix2 d s) + ∑ k ∈ Finset.range n, ∑ r : Fin 1024, arg19.view.read (Elt Ideal) X19 (ix2 d (row8 (Fin.ofNat 8 k) r)) * low (pX arg7 arg10 arg15 (k0_pay563 v3712) X7 X10 X15) (row8 (Fin.ofNat 8 k) r) s := by
  induction n with
  | zero => simp [Hand.pb_k0_t1]
  | succ n ih =>
    have hk : n < k0_t1_loop.trips := by rw [trips1]; omega
    rw [Hand.pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v3707 v3712 X7 X8 X10 X11 X15 X16 X17 X18 X19 X20 G21 G22 G23 ⟨n, hk⟩]
    dsimp only
    have e : blk ⟨n, hk⟩ = Fin.ofNat 8 n := Fin.ext (Nat.mod_eq_of_lt (blk ⟨n, hk⟩).isLt).symm
    rw [View.writes_append, t1_23, ih (by omega), Finset.sum_range_succ, add_assoc, e]

end All

end Loops

end Cert.Value
-- ==== Proof.Value.Out.lean ====
/- The three blocks the kernel writes at a grid point, as the sums of `Spec`. -/
module

public import proofs.«01_k».proof.Proof.Value.Scratch
public import proofs.«01_k».proof.Proof.Value.Spec
public import proofs.«01_k».proof.Proof.Value.Loop
public import proofs.«01_k».proof.Proof.KernelIdeal.Frame

@[expose] public section

set_option maxRecDepth 65536
set_option maxHeartbeats 4000000

noncomputable section

namespace Cert.Value

open Cert.KernelIdeal Cert.KernelIdeal.Gen
open Idealize.ShloMosaic
open scoped BigOperators

/-- The unmasked softmax probability of query row `r` and key `s` of a head, from the blocks of the head. -/
def pB (x2 : Vec Ideal S1x8x128 .f32) (x4 : Vec Ideal S1x64x128 .f32) (x6 : Vec Ideal S2048x1x4x128 .fp8e4m3) (x9 : Vec Ideal S1x2048x128 .fp8e4m3)
    (r : Fin 8192) (s : Fin 2048) : EReal :=
  Ideal.exp ((∑ d : Fin 128, x6 (ix4 (tok r) 0 (grp r) d) * x9 (ix3 0 s d)) * (x2 (ix3 0 ⟨r.val % 8, by omega⟩ ⟨s.val % 128, by omega⟩) * SM)
    - x4 (ix3 0 (lin r) (lan r)))

/-- The other factor of the score gradient of query row `r` and key `s` of a head. -/
def gB (vs : EReal) (x5 : Vec Ideal S64x128 .f32) (x7 : Vec Ideal S2048x1x4x128 .fp8e5m2) (x8 : Vec Ideal S2048x1x4x128 .bf16) (x10 : Vec Ideal S1x2048x128 .fp8e4m3)
    (r : Fin 8192) (s : Fin 2048) : EReal :=
  (∑ d : Fin 128, x7 (ix4 (tok r) 0 (grp r) d) * x10 (ix3 0 s d)) * (x5 (ix2 (lin r) (lan r)) * vs)
    - x5 (ix2 (lin r) (lan r)) * ∑ d : Fin 128, x7 (ix4 (tok r) 0 (grp r) d) * x8 (ix4 (tok r) 0 (grp r) d)

section Out

variable (cc : Dev nD) (i : grid0.Coords) (arg1 : Memref sig .tc .smem S8 .f32) (harg1 : arg1.IsWhole) (arg2 : Memref sig .tc .smem S8 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x64x128 .f32) (harg5 : arg5.IsWhole) (arg6 : Memref sig .tc .vmem S64x128 .f32) (harg6 : arg6.IsWhole) (arg7 : Memref sig .tc .vmem S2048x1x4x128 .fp8e4m3) (harg7 : arg7.IsWhole) (arg8 : Memref sig .tc .vmem S2048x1x4x128 .fp8e5m2) (harg8 : arg8.IsWhole) (arg9 : Memref sig .tc .vmem S2048x1x4x128 .bf16) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S2048x1x4x128 .bf16) (harg12 : arg12.IsWhole) (arg13 : Memref sig .tc .vmem S1x2048x128 .bf16) (harg13 : arg13.IsWhole) (arg14 : Memref sig .tc .vmem S1x2048x128 .bf16) (harg14 : arg14.IsWhole) (arg15 : Memref sig .tc .vmem S8192x128 .f32) (harg15 : arg15.IsWhole) (arg16 : Memref sig .tc .vmem S8192x128 .f32) (harg16 : arg16.IsWhole) (arg17 : Memref sig .tc .vmem S8192x128 .f32) (harg17 : arg17.IsWhole) (arg18 : Memref sig .tc .vmem S128x8192 .bf16) (harg18 : arg18.IsWhole) (arg19 : Memref sig .tc .vmem S128x8192 .bf16) (harg19 : arg19.IsWhole) (arg20 : Memref sig .tc .vmem S128x2048 .bf16) (harg20 : arg20.IsWhole) (arg21 : Memref sig .tc .vmem S128x8192 .f32) (harg21 : arg21.IsWhole) (arg22 : Memref sig .tc .vmem S128x2048 .f32) (harg22 : arg22.IsWhole) (arg23 : Memref sig .tc .vmem S128x2048 .f32) (harg23 : arg23.IsWhole)
  (x0 : Vec Ideal S8 .f32) (x1 : Vec Ideal S8 .f32) (x2 : Vec Ideal S1x8x128 .f32) (x3 : Vec Ideal S1x8x128 .f32) (x4 : Vec Ideal S1x64x128 .f32) (x5 : Vec Ideal S64x128 .f32) (x6 : Vec Ideal S2048x1x4x128 .fp8e4m3) (x7 : Vec Ideal S2048x1x4x128 .fp8e5m2) (x8 : Vec Ideal S2048x1x4x128 .bf16) (x9 : Vec Ideal S1x2048x128 .fp8e4m3) (x10 : Vec Ideal S1x2048x128 .fp8e4m3)

/-- What the loops store into the three accumulators. -/
abbrev accL := Hand.pb_k0_t1 (F := Ideal) Variants.none cc none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 Hand.kernelRun0_A.sl.v3703 (View.readAt (Elt Ideal) arg3.view (Rect.unit ![0, 0, 0] S1x8x128.size inb_S1x8x128_S1x8x128_0_0_0).toLoadRect (harg3.unread x2)) (harg7.unread x6) (harg8.unread x7) (harg10.unread x9) (harg11.unread x10) (arg15.view.writes (Elt Ideal) arg15.view.junk (Hand.kernelRun0_A.sl.HS0_64 cc arg5 harg5 x4)) (arg16.view.writes (Elt Ideal) arg16.view.junk (Hand.kernelRun0_A.sl.HS1_64 cc arg6 harg6 arg8 harg8 arg9 harg9 x5 x7 x8)) (arg17.view.writes (Elt Ideal) arg17.view.junk (Hand.kernelRun0_A.sl.HS2_64 cc i arg2 harg2 arg6 harg6 x1 x5)) (arg18.view.writes (Elt Ideal) arg18.view.junk (Hand.kernelRun0_A.sl.HS3_64 cc arg4 harg4 arg7 harg7 x3 x6)) (arg19.view.writes (Elt Ideal) arg19.view.junk (Hand.kernelRun0_A.sl.HS4_64 cc arg6 harg6 arg8 harg8 x5 x7)) (arg20.view.writes (Elt Ideal) arg20.view.junk (Hand.kernelRun0_A.sl.HS5_16 cc arg10 harg10 x9)) (arg21.view.writes (Elt Ideal) arg21.view.junk Hand.kernelRun0_A.sl.HS6_1) (arg22.view.writes (Elt Ideal) arg22.view.junk Hand.kernelRun0_A.sl.HS7_1) (arg23.view.writes (Elt Ideal) arg23.view.junk Hand.kernelRun0_A.sl.HS8_1) (Scf.trips k0_t1_loop.lb k0_t1_loop.ub k0_t1_loop.st)

theorem pX_eq (r : Fin 8192) (s : Fin 2048) :
    pX arg7 arg10 arg15 (k0_pay563 (View.readAt (Elt Ideal) arg3.view (Rect.unit ![0, 0, 0] S1x8x128.size inb_S1x8x128_S1x8x128_0_0_0).toLoadRect (harg3.unread x2))) (harg7.unread x6) (harg10.unread x9) (arg15.view.writes (Elt Ideal) arg15.view.junk (Hand.kernelRun0_A.sl.HS0_64 cc arg5 harg5 x4)) r s = pB x2 x4 x6 x9 r s := by
  unfold pX pU pB
  rw [sc15, pay563_apply, ldV_apply, exp2_score]
  simp only [harg7.read_unread, harg10.read_unread]
  have e1 : (⟨(⟨r.val % 1024, by omega⟩ : Fin 1024).val % 8, by omega⟩ : Fin 8) = ⟨r.val % 8, by omega⟩ := Fin.ext (by show r.val % 1024 % 8 = r.val % 8; omega)
  have e2 : (⟨(⟨s.val % 256, by omega⟩ : Fin 256).val % 128, by omega⟩ : Fin 128) = ⟨s.val % 128, by omega⟩ := Fin.ext (by show s.val % 256 % 128 = s.val % 128; omega)
  rw [e1, e2]

theorem gX_eq (r : Fin 8192) (s : Fin 2048) :
    gX arg8 arg11 arg16 arg17 (harg8.unread x7) (harg11.unread x10) (arg16.view.writes (Elt Ideal) arg16.view.junk (Hand.kernelRun0_A.sl.HS1_64 cc arg6 harg6 arg8 harg8 arg9 harg9 x5 x7 x8)) (arg17.view.writes (Elt Ideal) arg17.view.junk (Hand.kernelRun0_A.sl.HS2_64 cc i arg2 harg2 arg6 harg6 x1 x5)) r s = gB (Hand.kernelRun0_A.sl.r_1 cc i arg2 harg2 x1) x5 x7 x8 x10 r s := by
  unfold gX gU gB
  rw [sc16, sc17]
  simp only [harg8.read_unread, harg11.read_unread]

theorem lowX_eq (r : Fin 8192) (s : Fin 2048) :
    low (pX arg7 arg10 arg15 (k0_pay563 (View.readAt (Elt Ideal) arg3.view (Rect.unit ![0, 0, 0] S1x8x128.size inb_S1x8x128_S1x8x128_0_0_0).toLoadRect (harg3.unread x2))) (harg7.unread x6) (harg10.unread x9) (arg15.view.writes (Elt Ideal) arg15.view.junk (Hand.kernelRun0_A.sl.HS0_64 cc arg5 harg5 x4))) r s = low (pB x2 x4 x6 x9) r s := by
  unfold low
  rw [pX_eq]

/-- The transposed query gradient the loops leave. -/
theorem acc21 (d : Fin 128) (r : Fin 8192) :
    arg21.view.read (Elt Ideal) (arg21.view.writes (Elt Ideal) arg21.view.junk ((accL cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x1 x2 x3 x4 x5 x6 x7 x8 x9 x10).1 ++ Hand.kernelRun0_A.sl.HS6_1)) (ix2 d r) = ∑ s : Fin 2048, x9 (ix3 0 s d) * (low (pB x2 x4 x6 x9) r s * gB (Hand.kernelRun0_A.sl.r_1 cc i arg2 harg2 x1) x5 x7 x8 x10 r s) := by
  rw [View.writes_append]
  refine (out_21 Variants.none cc none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg7.unread x6) (harg8.unread x7) (harg10.unread x9) (harg11.unread x10) (arg15.view.writes (Elt Ideal) arg15.view.junk (Hand.kernelRun0_A.sl.HS0_64 cc arg5 harg5 x4)) (arg16.view.writes (Elt Ideal) arg16.view.junk (Hand.kernelRun0_A.sl.HS1_64 cc arg6 harg6 arg8 harg8 arg9 harg9 x5 x7 x8)) (arg17.view.writes (Elt Ideal) arg17.view.junk (Hand.kernelRun0_A.sl.HS2_64 cc i arg2 harg2 arg6 harg6 x1 x5)) (arg18.view.writes (Elt Ideal) arg18.view.junk (Hand.kernelRun0_A.sl.HS3_64 cc arg4 harg4 arg7 harg7 x3 x6)) (arg19.view.writes (Elt Ideal) arg19.view.junk (Hand.kernelRun0_A.sl.HS4_64 cc arg6 harg6 arg8 harg8 x5 x7)) (arg20.view.writes (Elt Ideal) arg20.view.junk (Hand.kernelRun0_A.sl.HS5_16 cc arg10 harg10 x9)) Hand.kernelRun0_A.sl.v3703 (View.readAt (Elt Ideal) arg3.view (Rect.unit ![0, 0, 0] S1x8x128.size inb_S1x8x128_S1x8x128_0_0_0).toLoadRect (harg3.unread x2)) (arg21.view.writes (Elt Ideal) arg21.view.junk Hand.kernelRun0_A.sl.HS6_1) (arg22.view.writes (Elt Ideal) arg22.view.junk Hand.kernelRun0_A.sl.HS7_1) (arg23.view.writes (Elt Ideal) arg23.view.junk Hand.kernelRun0_A.sl.HS8_1) 8 le_rfl d r).trans ?_
  rw [sc21, zero_add, if_pos (by omega)]
  refine Finset.sum_congr rfl fun s _ => ?_
  rw [sc20, lowX_eq, gX_eq]

/-- The transposed key gradient the loops leave. -/
theorem acc22 (d : Fin 128) (s : Fin 2048) :
    arg22.view.read (Elt Ideal) (arg22.view.writes (Elt Ideal) arg22.view.junk ((accL cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x1 x2 x3 x4 x5 x6 x7 x8 x9 x10).2.1 ++ Hand.kernelRun0_A.sl.HS7_1)) (ix2 d s) = ∑ r : Fin 8192, x6 (ix4 (tok r) 0 (grp r) d) * x3 (ix3 0 ⟨r.val % 8, by omega⟩ d) * (low (pB x2 x4 x6 x9) r s * gB (Hand.kernelRun0_A.sl.r_1 cc i arg2 harg2 x1) x5 x7 x8 x10 r s) := by
  rw [View.writes_append]
  refine (out_22 Variants.none cc none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg7.unread x6) (harg8.unread x7) (harg10.unread x9) (harg11.unread x10) (arg15.view.writes (Elt Ideal) arg15.view.junk (Hand.kernelRun0_A.sl.HS0_64 cc arg5 harg5 x4)) (arg16.view.writes (Elt Ideal) arg16.view.junk (Hand.kernelRun0_A.sl.HS1_64 cc arg6 harg6 arg8 harg8 arg9 harg9 x5 x7 x8)) (arg17.view.writes (Elt Ideal) arg17.view.junk (Hand.kernelRun0_A.sl.HS2_64 cc i arg2 harg2 arg6 harg6 x1 x5)) (arg18.view.writes (Elt Ideal) arg18.view.junk (Hand.kernelRun0_A.sl.HS3_64 cc arg4 harg4 arg7 harg7 x3 x6)) (arg19.view.writes (Elt Ideal) arg19.view.junk (Hand.kernelRun0_A.sl.HS4_64 cc arg6 harg6 arg8 harg8 x5 x7)) (arg20.view.writes (Elt Ideal) arg20.view.junk (Hand.kernelRun0_A.sl.HS5_16 cc arg10 harg10 x9)) Hand.kernelRun0_A.sl.v3703 (View.readAt (Elt Ideal) arg3.view (Rect.unit ![0, 0, 0] S1x8x128.size inb_S1x8x128_S1x8x128_0_0_0).toLoadRect (harg3.unread x2)) (arg21.view.writes (Elt Ideal) arg21.view.junk Hand.kernelRun0_A.sl.HS6_1) (arg22.view.writes (Elt Ideal) arg22.view.junk Hand.kernelRun0_A.sl.HS7_1) (arg23.view.writes (Elt Ideal) arg23.view.junk Hand.kernelRun0_A.sl.HS8_1) 8 le_rfl d s).trans ?_
  rw [sc22, zero_add, ← sum_rows]
  refine Finset.sum_congr rfl fun k _ => Finset.sum_congr rfl fun r _ => ?_
  rw [sc18, lowX_eq, gX_eq]

/-- The transposed value gradient the loops leave. -/
theorem acc23 (d : Fin 128) (s : Fin 2048) :
    arg23.view.read (Elt Ideal) (arg23.view.writes (Elt Ideal) arg23.view.junk ((accL cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x1 x2 x3 x4 x5 x6 x7 x8 x9 x10).2.2 ++ Hand.kernelRun0_A.sl.HS8_1)) (ix2 d s) = ∑ r : Fin 8192, x7 (ix4 (tok r) 0 (grp r) d) * x5 (ix2 (lin r) (lan r)) * low (pB x2 x4 x6 x9) r s := by
  rw [View.writes_append]
  refine (out_23 Variants.none cc none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (harg7.unread x6) (harg8.unread x7) (harg10.unread x9) (harg11.unread x10) (arg15.view.writes (Elt Ideal) arg15.view.junk (Hand.kernelRun0_A.sl.HS0_64 cc arg5 harg5 x4)) (arg16.view.writes (Elt Ideal) arg16.view.junk (Hand.kernelRun0_A.sl.HS1_64 cc arg6 harg6 arg8 harg8 arg9 harg9 x5 x7 x8)) (arg17.view.writes (Elt Ideal) arg17.view.junk (Hand.kernelRun0_A.sl.HS2_64 cc i arg2 harg2 arg6 harg6 x1 x5)) (arg18.view.writes (Elt Ideal) arg18.view.junk (Hand.kernelRun0_A.sl.HS3_64 cc arg4 harg4 arg7 harg7 x3 x6)) (arg19.view.writes (Elt Ideal) arg19.view.junk (Hand.kernelRun0_A.sl.HS4_64 cc arg6 harg6 arg8 harg8 x5 x7)) (arg20.view.writes (Elt Ideal) arg20.view.junk (Hand.kernelRun0_A.sl.HS5_16 cc arg10 harg10 x9)) Hand.kernelRun0_A.sl.v3703 (View.readAt (Elt Ideal) arg3.view (Rect.unit ![0, 0, 0] S1x8x128.size inb_S1x8x128_S1x8x128_0_0_0).toLoadRect (harg3.unread x2)) (arg21.view.writes (Elt Ideal) arg21.view.junk Hand.kernelRun0_A.sl.HS6_1) (arg22.view.writes (Elt Ideal) arg22.view.junk Hand.kernelRun0_A.sl.HS7_1) (arg23.view.writes (Elt Ideal) arg23.view.junk Hand.kernelRun0_A.sl.HS8_1) 8 le_rfl d s).trans ?_
  rw [show arg23.view.read (Elt Ideal) (arg23.view.writes (Elt Ideal) arg23.view.junk Hand.kernelRun0_A.sl.HS8_1) (ix2 d s) = (0 : EReal) from sc22 arg23 _ d s, zero_add, ← sum_rows]
  refine Finset.sum_congr rfl fun k _ => Finset.sum_congr rfl fun r _ => ?_
  rw [sc19, lowX_eq]

/-- The stores of the query gradient: tile `c` is the transposed accumulator's columns, scaled. -/
theorem L11_eq : (Hand.kernelRun0_A (F := Ideal) cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).1
    = View.tilePieces (s := S2048x1x4x128) S32x1x4x128.size (fun c => ![32 * c.val, 0, 0, 0]) inb_q (fun c => k0_pay680 (F := Ideal) (Hand.kernelRun0_A.sl.r cc i arg1 harg1 x0)
        (arg21.view.readAt (Elt Ideal) (Rect.unit (s := S128x8192) (offT c) S128x128.size (inbT64 c)).toLoadRect (arg21.view.writes (Elt Ideal) arg21.view.junk ((accL cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x1 x2 x3 x4 x5 x6 x7 x8 x9 x10).1 ++ Hand.kernelRun0_A.sl.HS6_1)))) 64 le_rfl := rfl

theorem L12_eq : (Hand.kernelRun0_A (F := Ideal) cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.1
    = View.tilePieces (s := S1x2048x128) S1x128x128.size (fun c => ![0, 128 * c.val, 0]) inb_k (fun c => k0_pay568 (F := Ideal)
        (arg22.view.readAt (Elt Ideal) (Rect.unit (s := S128x2048) (offT c) S128x128.size (inbT16 c)).toLoadRect (arg22.view.writes (Elt Ideal) arg22.view.junk ((accL cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x1 x2 x3 x4 x5 x6 x7 x8 x9 x10).2.1 ++ Hand.kernelRun0_A.sl.HS7_1)))) 16 le_rfl := rfl

theorem L13_eq : (Hand.kernelRun0_A (F := Ideal) cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10).2.2.1
    = View.tilePieces (s := S1x2048x128) S1x128x128.size (fun c => ![0, 128 * c.val, 0]) inb_k (fun c => k0_pay569 (F := Ideal)
        (arg23.view.readAt (Elt Ideal) (Rect.unit (s := S128x2048) (offT c) S128x128.size (inbT16 c)).toLoadRect (arg23.view.writes (Elt Ideal) arg23.view.junk ((accL cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x1 x2 x3 x4 x5 x6 x7 x8 x9 x10).2.2 ++ Hand.kernelRun0_A.sl.HS8_1)))) 16 le_rfl := rfl

/-- The query gradient of a token, group member and lane of the head. -/
theorem out11 (t : Fin 2048) (g : Fin 4) (d : Fin 128) :
    Hand.out0_A_11 (F := Ideal) cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 (ix4 t 0 g d)
      = (∑ s : Fin 2048, x9 (ix3 0 s d) * (low (pB x2 x4 x6 x9) ⟨4 * t.val + g.val, by omega⟩ s * gB (Hand.kernelRun0_A.sl.r_1 cc i arg2 harg2 x1) x5 x7 x8 x10 ⟨4 * t.val + g.val, by omega⟩ s)) * ((Hand.kernelRun0_A.sl.r cc i arg1 harg1 x0) * SM) := by
  unfold Hand.out0_A_11
  rw [L11_eq]
  refine (View.read_tilePieces (s := S2048x1x4x128) _ _ S32x1x4x128.size _ inb_q _ 64 le_rfl (ix4 t 0 g d) ⟨t.val / 32, by omega⟩ (by show t.val / 32 < 64; omega) (ix4 (⟨t.val % 32, by omega⟩ : Fin 32) 0 g d) ?_ (0 : Fin 4) ?_).trans ?_
  · intro a
    match a with
    | ⟨0, _⟩ => show t.val = 32 * (t.val / 32) + t.val % 32; omega
    | ⟨1, _⟩ => rfl
    | ⟨2, _⟩ => show g.val = 0 + g.val; omega
    | ⟨3, _⟩ => show d.val = 0 + d.val; omega
  · intro i' h
    have h' : i'.val ≠ t.val / 32 := fun hh => h (Fin.ext hh)
    show t.val < 32 * i'.val ∨ 32 * i'.val + 32 ≤ t.val
    omega
  · rw [pay680_apply]
    refine congrArg (· * _) ((congrArg (arg21.view.read (Elt Ideal) _) ?_).trans (acc21 cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x1 x2 x3 x4 x5 x6 x7 x8 x9 x10 d ⟨4 * t.val + g.val, by omega⟩))
    funext a
    refine Fin.ext ?_
    match a with
    | ⟨0, _⟩ => show 0 + 1 * d.val = d.val; omega
    | ⟨1, _⟩ => show 128 * (t.val / 32) + 1 * (t.val % 32 * 4 + g.val) = 4 * t.val + g.val; omega

/-- The key gradient of a token and lane of the head. -/
theorem out12 (s : Fin 2048) (d : Fin 128) :
    Hand.out0_A_12 (F := Ideal) cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 (ix3 0 s d)
      = (∑ r : Fin 8192, x6 (ix4 (tok r) 0 (grp r) d) * x3 (ix3 0 ⟨r.val % 8, by omega⟩ d) * (low (pB x2 x4 x6 x9) r s * gB (Hand.kernelRun0_A.sl.r_1 cc i arg2 harg2 x1) x5 x7 x8 x10 r s)) * SM := by
  unfold Hand.out0_A_12
  rw [L12_eq]
  refine (View.read_tilePieces (s := S1x2048x128) _ _ S1x128x128.size _ inb_k _ 16 le_rfl (ix3 0 s d) ⟨s.val / 128, by omega⟩ (by show s.val / 128 < 16; omega) (ix3 0 (⟨s.val % 128, by omega⟩ : Fin 128) d) ?_ (1 : Fin 3) ?_).trans ?_
  · intro a
    match a with
    | ⟨0, _⟩ => rfl
    | ⟨1, _⟩ => show s.val = 128 * (s.val / 128) + s.val % 128; omega
    | ⟨2, _⟩ => show d.val = 0 + d.val; omega
  · intro i' h
    have h' : i'.val ≠ s.val / 128 := fun hh => h (Fin.ext hh)
    show s.val < 128 * i'.val ∨ 128 * i'.val + 128 ≤ s.val
    omega
  · rw [pay568_apply]
    refine congrArg (· * _) ((congrArg (arg22.view.read (Elt Ideal) _) ?_).trans (acc22 cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x1 x2 x3 x4 x5 x6 x7 x8 x9 x10 d s))
    funext a
    refine Fin.ext ?_
    match a with
    | ⟨0, _⟩ => show 0 + 1 * d.val = d.val; omega
    | ⟨1, _⟩ => show 128 * (s.val / 128) + 1 * (s.val % 128) = s.val; omega

/-- The value gradient of a token and lane of the head. -/
theorem out13 (s : Fin 2048) (d : Fin 128) :
    Hand.out0_A_13 (F := Ideal) cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 (ix3 0 s d)
      = ∑ r : Fin 8192, x7 (ix4 (tok r) 0 (grp r) d) * x5 (ix2 (lin r) (lan r)) * low (pB x2 x4 x6 x9) r s := by
  unfold Hand.out0_A_13
  rw [L13_eq]
  refine (View.read_tilePieces (s := S1x2048x128) _ _ S1x128x128.size _ inb_k _ 16 le_rfl (ix3 0 s d) ⟨s.val / 128, by omega⟩ (by show s.val / 128 < 16; omega) (ix3 0 (⟨s.val % 128, by omega⟩ : Fin 128) d) ?_ (1 : Fin 3) ?_).trans ?_
  · intro a
    match a with
    | ⟨0, _⟩ => rfl
    | ⟨1, _⟩ => show s.val = 128 * (s.val / 128) + s.val % 128; omega
    | ⟨2, _⟩ => show d.val = 0 + d.val; omega
  · intro i' h
    have h' : i'.val ≠ s.val / 128 := fun hh => h (Fin.ext hh)
    show s.val < 128 * i'.val ∨ 128 * i'.val + 128 ≤ s.val
    omega
  · rw [pay569_apply]
    refine ((congrArg (arg23.view.read (Elt Ideal) _) ?_).trans (acc23 cc i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x1 x2 x3 x4 x5 x6 x7 x8 x9 x10 d s))
    funext a
    refine Fin.ext ?_
    match a with
    | ⟨0, _⟩ => show 0 + 1 * d.val = d.val; omega
    | ⟨1, _⟩ => show 128 * (s.val / 128) + 1 * (s.val % 128) = s.val; omega

end Out

end Cert.Value
-- ==== Proof.Value.Host1.lean ====
/- The host lines before the kernel, at one index. -/
module

public import proofs.«01_k».proof.Proof.Value.Out
public import Idealize.ShloMosaic.Lib.StableHlo.ReadAt

@[expose] public section

set_option maxRecDepth 65536
set_option maxHeartbeats 4000000

noncomputable section

namespace Cert.Value

open Cert.KernelIdeal Cert.KernelIdeal.Gen
open Idealize.ShloMosaic
open scoped BigOperators

section HostReads

variable (m : (b : Loc nD τ sig) → Buf (Elt Ideal) b) (c : Dev nD)

theorem V_v0 (t : Fin 2048) (h : Fin 8) (g : Fin 4) (d : Fin 128) : V m c main_v0 (ix4 t h g d) = m (c.tc.loc main_arg0) (ix4 0 t (⟨h.val * 4 + g.val, by omega⟩ : Fin 32) d) := by
  unfold V V0
  after_reads_at

theorem V_v1 (t : Fin 2048) (h : Fin 8) (g : Fin 4) (d : Fin 128) : V m c main_v1 (ix4 t h g d) = m (c.tc.loc main_arg8) (ix4 0 t (⟨h.val * 4 + g.val, by omega⟩ : Fin 32) d) := by
  unfold V V0
  after_reads_at

theorem V_v2 (t : Fin 2048) (h : Fin 8) (g : Fin 4) (d : Fin 128) : V m c main_v2 (ix4 t h g d) = m (c.tc.loc main_arg6) (ix4 0 t (⟨h.val * 4 + g.val, by omega⟩ : Fin 32) d) := by
  unfold V V0
  after_reads_at

theorem V_v4 (h : Fin 8) (s : Fin 2048) (d : Fin 128) : V m c main_v4 (ix3 h s d) = m (c.tc.loc main_arg2) (ix4 0 s h d) := by
  unfold V V0
  after_reads_at

theorem V_v6 (h : Fin 8) (s : Fin 2048) (d : Fin 128) : V m c main_v6 (ix3 h s d) = m (c.tc.loc main_arg4) (ix4 0 s h d) := by
  unfold V V0
  after_reads_at

theorem V_v9 (h : Fin 8) (r : Fin 8192) : V m c main_v9 (ix3 h (lin r) (lan r)) = m (c.tc.loc main_arg7) (ix3 0 (⟨h.val * 4 + (grp r).val, by omega⟩ : Fin 32) (tok r)) := by
  unfold V V0
  after_reads_at
  refine congrArg₂ (fun a b => m (c, Proc.tc.devRef main_arg7) (ix3 0 a b)) (Fin.ext ?_) (Fin.ext ?_)
  · show h.val * 4 + r.val % 128 % 4 = h.val * 4 + r.val % 4; omega
  · show r.val / 128 * 32 + r.val % 128 / 4 = r.val / 4; omega

theorem V_v13 (r : Fin 8192) : V m c main_v13 (ix2 (lin r) (lan r)) = m (c.tc.loc main_arg9) (ix2 0 (tok r)) := by
  unfold V V0
  after_reads_at
  refine congrArg (fun b => m (c, Proc.tc.devRef main_arg9) (ix2 0 b)) (Fin.ext ?_)
  show (r.val / 128 * 128 + r.val % 128) / 4 = r.val / 4; omega

theorem V_v28 (h : Fin 8) (j : Fin 8) (d : Fin 128) : V m c main_v28 (ix3 h j d) = m (c.tc.loc main_arg1) (ix1 (⟨h.val * 4 + j.val % 4, by omega⟩ : Fin 32)) := by
  unfold V V0
  after_reads_at

theorem V_v22 (h : Fin 8) (j : Fin 8) (d : Fin 128) : (show EReal from V m c main_v22 (ix3 h j d)) = (show EReal from m (c.tc.loc main_arg1) (ix1 (⟨h.val * 4 + j.val % 4, by omega⟩ : Fin 32))) * (show EReal from m (c.tc.loc main_arg3) (ix1 h)) := by
  unfold V V0
  after_reads_at

end HostReads

end Cert.Value
-- ==== Proof.Value.Host2.lean ====
/- The blocks a grid point reads, in terms of the argument arrays. -/
module

public import proofs.«01_k».proof.Proof.Value.Host1
public import Idealize.ShloMosaic.Lib.Pipeline.ValueKit.Point
public import Idealize.ShloMosaic.Lib.Pipeline.ValueKit.Geometry

@[expose] public section

set_option maxRecDepth 65536
set_option maxHeartbeats 4000000

noncomputable section

namespace Cert.Value

open Cert.KernelIdeal Cert.KernelIdeal.Gen
open Idealize.ShloMosaic
open scoped BigOperators

section Blocks

variable (m : (b : Loc nD τ sig) → Buf (Elt Ideal) b) (c : Dev nD)

/-- The kernel's argument arrays by coordinates. -/
def arrs : Arrays where
  q t n d := m (c.tc.loc main_arg0) (ix4 0 t n d)
  qs n := m (c.tc.loc main_arg1) (ix1 n)
  k t n d := m (c.tc.loc main_arg2) (ix4 0 t n d)
  ks n := m (c.tc.loc main_arg3) (ix1 n)
  v t n d := m (c.tc.loc main_arg4) (ix4 0 t n d)
  vs n := m (c.tc.loc main_arg5) (ix1 n)
  o t n d := m (c.tc.loc main_arg6) (ix4 0 t n d)
  lse n t := m (c.tc.loc main_arg7) (ix3 0 n t)
  w t n d := m (c.tc.loc main_arg8) (ix4 0 t n d)
  ws t := m (c.tc.loc main_arg9) (ix2 0 t)

/-- The key head a grid point computes. -/
abbrev hd (p : Fin cfg0.N) : Fin 8 := ⟨p.val, lt_of_lt_of_eq p.isLt N_0⟩

theorem coord_eq (p : Fin cfg0.N) : (grid0.coords p 0).val = p.val := (by decide +kernel : ∀ p : Fin grid0.N, (grid0.coords p 0).val = p.val) p

theorem idx0 : ∀ p : Fin cfg0.N, win0_0.index p = ![0] := (by decide +kernel : ∀ p : Fin grid0.N, win0_0.index p = ![0])

theorem idx1 : ∀ p : Fin cfg0.N, win0_1.index p = ![0] := (by decide +kernel : ∀ p : Fin grid0.N, win0_1.index p = ![0])

theorem idx2 : ∀ p : Fin cfg0.N, win0_2.index p = ![p.val, 0, 0] := (by decide +kernel : ∀ p : Fin grid0.N, win0_2.index p = ![p.val, 0, 0])

theorem idx3 : ∀ p : Fin cfg0.N, win0_3.index p = ![p.val, 0, 0] := (by decide +kernel : ∀ p : Fin grid0.N, win0_3.index p = ![p.val, 0, 0])

theorem idx4 : ∀ p : Fin cfg0.N, win0_4.index p = ![p.val, 0, 0] := (by decide +kernel : ∀ p : Fin grid0.N, win0_4.index p = ![p.val, 0, 0])

theorem idx9 : ∀ p : Fin cfg0.N, win0_9.index p = ![p.val, 0, 0] := (by decide +kernel : ∀ p : Fin grid0.N, win0_9.index p = ![p.val, 0, 0])

theorem idx10 : ∀ p : Fin cfg0.N, win0_10.index p = ![p.val, 0, 0] := (by decide +kernel : ∀ p : Fin grid0.N, win0_10.index p = ![p.val, 0, 0])

theorem idx12 : ∀ p : Fin cfg0.N, win0_12.index p = ![p.val, 0, 0] := (by decide +kernel : ∀ p : Fin grid0.N, win0_12.index p = ![p.val, 0, 0])

theorem idx13 : ∀ p : Fin cfg0.N, win0_13.index p = ![p.val, 0, 0] := (by decide +kernel : ∀ p : Fin grid0.N, win0_13.index p = ![p.val, 0, 0])

theorem idx5 : ∀ p : Fin cfg0.N, win0_5.index p = ![0, 0] := (by decide +kernel : ∀ p : Fin grid0.N, win0_5.index p = ![0, 0])

theorem idx6 : ∀ p : Fin cfg0.N, win0_6.index p = ![0, p.val, 0, 0] := (by decide +kernel : ∀ p : Fin grid0.N, win0_6.index p = ![0, p.val, 0, 0])

theorem idx7 : ∀ p : Fin cfg0.N, win0_7.index p = ![0, p.val, 0, 0] := (by decide +kernel : ∀ p : Fin grid0.N, win0_7.index p = ![0, p.val, 0, 0])

theorem idx8 : ∀ p : Fin cfg0.N, win0_8.index p = ![0, p.val, 0, 0] := (by decide +kernel : ∀ p : Fin grid0.N, win0_8.index p = ![0, p.val, 0, 0])

theorem idx11 : ∀ p : Fin cfg0.N, win0_11.index p = ![0, p.val, 0, 0] := (by decide +kernel : ∀ p : Fin grid0.N, win0_11.index p = ![0, p.val, 0, 0])

theorem blk6 (p : Fin cfg0.N) (t : Fin 2048) (g : Fin 4) (d : Fin 128) : (iblk m c 6 p : Vec Ideal S2048x1x4x128 .fp8e4m3) (ix4 t 0 g d) = (arrs m c).q t (qh (hd p) g) d := by
  unfold iblk
  rw [View.read_apply]
  refine (congrArg (V m c main_v0) (?_ : _ = ix4 t (hd p) g d)).trans (V_v0 m c t (hd p) g d)
  blk_ext [idx6 p]

theorem blk7 (p : Fin cfg0.N) (t : Fin 2048) (g : Fin 4) (d : Fin 128) : (iblk m c 7 p : Vec Ideal S2048x1x4x128 .fp8e5m2) (ix4 t 0 g d) = (arrs m c).w t (qh (hd p) g) d := by
  unfold iblk
  rw [View.read_apply]
  refine (congrArg (V m c main_v1) (?_ : _ = ix4 t (hd p) g d)).trans (V_v1 m c t (hd p) g d)
  blk_ext [idx7 p]

theorem blk8 (p : Fin cfg0.N) (t : Fin 2048) (g : Fin 4) (d : Fin 128) : (iblk m c 8 p : Vec Ideal S2048x1x4x128 .bf16) (ix4 t 0 g d) = (arrs m c).o t (qh (hd p) g) d := by
  unfold iblk
  rw [View.read_apply]
  refine (congrArg (V m c main_v2) (?_ : _ = ix4 t (hd p) g d)).trans (V_v2 m c t (hd p) g d)
  blk_ext [idx8 p]

theorem blk9 (p : Fin cfg0.N) (s : Fin 2048) (d : Fin 128) : (iblk m c 9 p : Vec Ideal S1x2048x128 .fp8e4m3) (ix3 0 s d) = (arrs m c).k s (hd p) d := by
  unfold iblk
  rw [View.read_apply]
  refine (congrArg (V m c main_v4) (?_ : _ = ix3 (hd p) s d)).trans (V_v4 m c (hd p) s d)
  blk_ext [idx9 p]

theorem blk10 (p : Fin cfg0.N) (s : Fin 2048) (d : Fin 128) : (iblk m c 10 p : Vec Ideal S1x2048x128 .fp8e4m3) (ix3 0 s d) = (arrs m c).v s (hd p) d := by
  unfold iblk
  rw [View.read_apply]
  refine (congrArg (V m c main_v6) (?_ : _ = ix3 (hd p) s d)).trans (V_v6 m c (hd p) s d)
  blk_ext [idx10 p]

theorem blk0 (p : Fin cfg0.N) (n : Fin 8) : (iblk m c 0 p : Vec Ideal S8 .f32) (ix1 n) = (arrs m c).ks n := by
  unfold iblk
  rw [View.read_apply]
  refine (congrArg (V m c main_arg3) (?_ : _ = ix1 n)).trans (congrFun (V_main_arg3 m c) _)
  blk_ext [idx0 p]

theorem blk1 (p : Fin cfg0.N) (n : Fin 8) : (iblk m c 1 p : Vec Ideal S8 .f32) (ix1 n) = (arrs m c).vs n := by
  unfold iblk
  rw [View.read_apply]
  refine (congrArg (V m c main_arg5) (?_ : _ = ix1 n)).trans (congrFun (V_main_arg5 m c) _)
  blk_ext [idx1 p]

theorem blk2 (p : Fin cfg0.N) (j : Fin 8) (d : Fin 128) : (iblk m c 2 p : Vec Ideal S1x8x128 .f32) (ix3 0 j d) = (arrs m c).qs (qh (hd p) ⟨j.val % 4, by omega⟩) * (arrs m c).ks (hd p) := by
  unfold iblk
  rw [View.read_apply]
  refine (congrArg (V m c main_v22) (?_ : _ = ix3 (hd p) j d)).trans (V_v22 m c (hd p) j d)
  blk_ext [idx2 p]

theorem blk3 (p : Fin cfg0.N) (j : Fin 8) (d : Fin 128) : (iblk m c 3 p : Vec Ideal S1x8x128 .f32) (ix3 0 j d) = (arrs m c).qs (qh (hd p) ⟨j.val % 4, by omega⟩) := by
  unfold iblk
  rw [View.read_apply]
  refine (congrArg (V m c main_v28) (?_ : _ = ix3 (hd p) j d)).trans (V_v28 m c (hd p) j d)
  blk_ext [idx3 p]

theorem blk4 (p : Fin cfg0.N) (r : Fin 8192) : (iblk m c 4 p : Vec Ideal S1x64x128 .f32) (ix3 0 (lin r) (lan r)) = (arrs m c).lse (qh (hd p) (grp r)) (tok r) := by
  unfold iblk
  rw [View.read_apply]
  refine (congrArg (V m c main_v9) (?_ : _ = ix3 (hd p) (lin r) (lan r))).trans (V_v9 m c (hd p) r)
  blk_ext [idx4 p]

theorem blk5 (p : Fin cfg0.N) (r : Fin 8192) : (iblk m c 5 p : Vec Ideal S64x128 .f32) (ix2 (lin r) (lan r)) = (arrs m c).ws (tok r) := by
  unfold iblk
  rw [View.read_apply]
  refine (congrArg (V m c main_v13) (?_ : _ = ix2 (lin r) (lan r))).trans (V_v13 m c r)
  blk_ext [idx5 p]

end Blocks

end Cert.Value
-- ==== Proof.Value.Host3.lean ====
/- The three blocks a grid point writes, in terms of the argument arrays. -/
module

public import proofs.«01_k».proof.Proof.Value.Host2

@[expose] public section

set_option maxRecDepth 65536
set_option maxHeartbeats 4000000

noncomputable section

namespace Cert.Value

open Cert.KernelIdeal Cert.KernelIdeal.Gen
open Idealize.ShloMosaic
open scoped BigOperators

section Results

variable (m : (b : Loc nD τ sig) → Buf (Elt Ideal) b) (c : Dev nD)

theorem off1 (p : Fin cfg0.N) : k0_off1 (grid0.coords p) = ![p.val] := (by decide +kernel : ∀ p : Fin grid0.N, k0_off1 (grid0.coords p) = ![p.val]) p

/-- The key scale the body reads is the head's. -/
theorem ks_eq (p : Fin cfg0.N) (a : Memref sig .tc .smem S8 .f32) (ha : a.IsWhole) (x : Vec Ideal S8 .f32) :
    Hand.kernelRun0_A.sl.r (F := Ideal) c (grid0.coords p) a ha x = x (ix1 (hd p)) := by
  unfold Hand.kernelRun0_A.sl.r
  refine (ha.readAt_unread x _ _).trans (congrArg x ?_)
  funext a
  refine Fin.ext ?_
  match a with
  | ⟨0, _⟩ => show k0_off1 (grid0.coords p) 0 + 1 * 0 = p.val; rw [off1]; rfl

/-- The value scale the body reads is the head's. -/
theorem vs_eq (p : Fin cfg0.N) (a : Memref sig .tc .smem S8 .f32) (ha : a.IsWhole) (x : Vec Ideal S8 .f32) :
    Hand.kernelRun0_A.sl.r_1 (F := Ideal) c (grid0.coords p) a ha x = x (ix1 (hd p)) := by
  unfold Hand.kernelRun0_A.sl.r_1
  refine (ha.readAt_unread x _ _).trans (congrArg x ?_)
  funext a
  refine Fin.ext ?_
  match a with
  | ⟨0, _⟩ => show k0_off1 (grid0.coords p) 0 + 1 * 0 = p.val; rw [off1]; rfl

theorem pB_eq (p : Fin cfg0.N) (r : Fin 8192) (s : Fin 2048) :
    pB (iblk m c 2 p) (iblk m c 4 p) (iblk m c 6 p) (iblk m c 9 p) r s = (arrs m c).pS (hd p) (grp r) (tok r) s := by
  unfold pB Arrays.pS
  rw [blk2, blk4]
  simp only [blk6, blk9]
  rw [show (⟨(⟨r.val % 8, by omega⟩ : Fin 8).val % 4, by omega⟩ : Fin 4) = grp r from Fin.ext (by show r.val % 8 % 4 = r.val % 4; omega)]

theorem gB_eq (p : Fin cfg0.N) (r : Fin 8192) (s : Fin 2048) :
    gB ((arrs m c).vs (hd p)) (iblk m c 5 p) (iblk m c 7 p) (iblk m c 8 p) (iblk m c 10 p) r s = (arrs m c).gS (hd p) (grp r) (tok r) s := by
  unfold gB Arrays.gS
  rw [blk5]
  simp only [blk7, blk8, blk10]

theorem low_eq (p : Fin cfg0.N) (r : Fin 8192) (s : Fin 2048) :
    low (pB (iblk m c 2 p) (iblk m c 4 p) (iblk m c 6 p) (iblk m c 9 p)) r s = (arrs m c).lS (hd p) (grp r) (tok r) s := by
  unfold low Arrays.lS
  rw [pB_eq]

theorem row_grp (t : Fin 2048) (g : Fin 4) : grp ⟨4 * t.val + g.val, by omega⟩ = g := Fin.ext (by show (4 * t.val + g.val) % 4 = g.val; omega)
theorem row_tok (t : Fin 2048) (g : Fin 4) : tok ⟨4 * t.val + g.val, by omega⟩ = t := Fin.ext (by show (4 * t.val + g.val) / 4 = t.val; omega)

theorem outs11 (p : Fin cfg0.N) (t : Fin 2048) (g : Fin 4) (d : Fin 128) :
    (Hand.outsAt0 m c p).1 (ix4 t 0 g d) = (arrs m c).dq (hd p) g t d := by
  unfold Hand.outsAt0
  refine (out11 c (grid0.coords p) _ _ _ _ _ _ _ _ _ _ _ _ _ _ _ _ _ _ _ _ _ _ _ _ _ _ _ _ _ _ _ _ _ _ _ _ _ _ _ _ _ _ _ _ _ _ _ _ _ _ _ _ _ _ _ _ _ t g d).trans ?_
  unfold Arrays.dq
  rw [ks_eq, vs_eq, blk0, blk1]
  simp only [low_eq, gB_eq, blk9, row_grp, row_tok]

theorem outs12 (p : Fin cfg0.N) (s : Fin 2048) (d : Fin 128) :
    (Hand.outsAt0 m c p).2.1 (ix3 0 s d) = (arrs m c).dk (hd p) s d := by
  unfold Hand.outsAt0
  refine (out12 c (grid0.coords p) _ _ _ _ _ _ _ _ _ _ _ _ _ _ _ _ _ _ _ _ _ _ _ _ _ _ _ _ _ _ _ _ _ _ _ _ _ _ _ _ _ _ _ _ _ _ (iblk m c 0 p) _ _ _ _ _ _ _ _ _ _ s d).trans ?_
  unfold Arrays.dk
  rw [vs_eq, blk1]
  refine congrArg (· * SM) (sum_split _ _ fun r => ?_)
  rw [low_eq, gB_eq, blk6, blk3]
  rw [show (⟨(⟨r.val % 8, by omega⟩ : Fin 8).val % 4, by omega⟩ : Fin 4) = grp r from Fin.ext (by show r.val % 8 % 4 = r.val % 4; omega)]

theorem outs13 (p : Fin cfg0.N) (s : Fin 2048) (d : Fin 128) :
    (Hand.outsAt0 m c p).2.2 (ix3 0 s d) = (arrs m c).dv (hd p) s d := by
  unfold Hand.outsAt0
  refine (out13 c (grid0.coords p) _ _ _ _ _ _ _ _ _ _ _ _ _ _ _ _ _ _ _ _ _ _ _ _ _ _ _ _ _ _ _ _ _ _ _ _ _ _ _ _ _ _ _ _ _ _ (iblk m c 0 p) _ _ _ _ _ _ _ _ _ _ s d).trans ?_
  unfold Arrays.dv
  refine sum_split _ _ fun r => ?_
  rw [low_eq, blk7, blk5]

end Results

end Cert.Value
-- ==== Proof.Value.Heads.lean ====
/- A query head as a key head and a place in its group. -/
module

public import proofs.«01_k».proof.Proof.Value.Spec

@[expose] public section

noncomputable section

namespace Cert.Value

/-- The key head of a query head. -/
abbrev kh (n : Fin 32) : Fin 8 := ⟨n.val / 4, by omega⟩

/-- The place of a query head in its group. -/
abbrev gr (n : Fin 32) : Fin 4 := ⟨n.val % 4, by omega⟩

end Cert.Value
-- ==== Proof.Value.Host4.lean ====
/- The three results of the kernel program, in terms of the argument arrays. -/
module

public import proofs.«01_k».proof.Proof.Value.Host3
public import proofs.«01_k».proof.Proof.Value.Heads

@[expose] public section

set_option maxRecDepth 65536
set_option maxHeartbeats 4000000

noncomputable section

namespace Cert.Value

open Cert.KernelIdeal Cert.KernelIdeal.Gen
open Idealize.ShloMosaic
open scoped BigOperators

section Results

variable (m : (b : Loc nD τ sig) → Buf (Elt Ideal) b) (c : Dev nD)

theorem emb11 (p : Fin cfg0.N) (t : Fin 2048) (g : Fin 4) (d : Fin 128) : ((cfg0.win 11).blk p).view.emb (ix4 t 0 g d) = ix4 t (hd p) g d := by
  blk_ext [idx11 p]

theorem emb12 (p : Fin cfg0.N) (s : Fin 2048) (d : Fin 128) : ((cfg0.win 12).blk p).view.emb (ix3 0 s d) = ix3 (hd p) s d := by
  blk_ext [idx12 p]

theorem emb13 (p : Fin cfg0.N) (s : Fin 2048) (d : Fin 128) : ((cfg0.win 13).blk p).view.emb (ix3 0 s d) = ix3 (hd p) s d := by
  blk_ext [idx13 p]

/-- The query gradient's array after the grid. -/
theorem final11 : (Hand.dats m 0 c).arrAt 11 cfg0.N = fun i : S2048x8x4x128.Idx => (arrs m c).dq (i 1) (i 2) (i 0) (i 3) := by
  refine (Hand.dats m 0 c).arrAt_eq_of_covers 11 _ (by decide +kernel) fun p hf y => ?_
  obtain ⟨t, z, g, d, rfl⟩ : ∃ (t : Fin 2048) (z : Fin 1) (g : Fin 4) (d : Fin 128), y = ix4 t z g d := ⟨_, _, _, _, eq_ix4 y⟩
  obtain rfl : z = 0 := Subsingleton.elim _ _
  blk_simp
  rw [Hand.after0_11]
  refine (outs11 m c p t g d).trans ?_
  rw [show (win0_11.blk p).view.emb (ix4 t 0 g d) = ix4 t (hd p) g d from emb11 p t g d]
  rfl

/-- The key gradient's array after the grid. -/
theorem final12 : (Hand.dats m 0 c).arrAt 12 cfg0.N = fun i : S8x2048x128.Idx => (arrs m c).dk (i 0) (i 1) (i 2) := by
  refine (Hand.dats m 0 c).arrAt_eq_of_covers 12 _ (by decide +kernel) fun p hf y => ?_
  obtain ⟨z, s, d, rfl⟩ : ∃ (z : Fin 1) (s : Fin 2048) (d : Fin 128), y = ix3 z s d := ⟨_, _, _, eq_ix3 y⟩
  obtain rfl : z = 0 := Subsingleton.elim _ _
  blk_simp
  rw [Hand.after0_12]
  refine (outs12 m c p s d).trans ?_
  rw [show (win0_12.blk p).view.emb (ix3 0 s d) = ix3 (hd p) s d from emb12 p s d]
  rfl

/-- The value gradient's array after the grid. -/
theorem final13 : (Hand.dats m 0 c).arrAt 13 cfg0.N = fun i : S8x2048x128.Idx => (arrs m c).dv (i 0) (i 1) (i 2) := by
  refine (Hand.dats m 0 c).arrAt_eq_of_covers 13 _ (by decide +kernel) fun p hf y => ?_
  obtain ⟨z, s, d, rfl⟩ : ∃ (z : Fin 1) (s : Fin 2048) (d : Fin 128), y = ix3 z s d := ⟨_, _, _, eq_ix3 y⟩
  obtain rfl : z = 0 := Subsingleton.elim _ _
  blk_simp
  rw [Hand.after0_13]
  refine (outs13 m c p s d).trans ?_
  rw [show (win0_13.blk p).view.emb (ix3 0 s d) = ix3 (hd p) s d from emb13 p s d]
  rfl

theorem arr_inj : Function.Injective (Pipeline.arrRef spec0) := by decide +kernel

section Tail

variable (W : Valuation τ sig (Elt Ideal))

theorem tail30 (n : Fin 32) (t : Fin 2048) (d : Fin 128) :
    StableHlo.after (List.flatten [hostOps1]) W (Proc.devRef .tc main_v30) (ix4 0 t n d) = W (Proc.devRef .tc main_v29_0) (ix4 t (kh n) (gr n) d) := by
  after_reads_at

theorem tail32 (h : Fin 8) (t : Fin 2048) (d : Fin 128) :
    StableHlo.after (List.flatten [hostOps1]) W (Proc.devRef .tc main_v32) (ix4 0 t h d) = W (Proc.devRef .tc main_v29_1) (ix3 h t d) := by
  after_reads_at

theorem tail34 (h : Fin 8) (t : Fin 2048) (d : Fin 128) :
    StableHlo.after (List.flatten [hostOps1]) W (Proc.devRef .tc main_v34) (ix4 0 t h d) = W (Proc.devRef .tc main_v29_2) (ix3 h t d) := by
  after_reads_at

end Tail

/-- The first result: the query gradient. -/
theorem res30 : (Pipeline.afterTail₀ cfgs (Hand.dats m) 0 (V0 m) [hostOps1] c main_v30)
    = fun i : S1x2048x32x128.Idx => (arrs m c).dq (kh (i 2)) (gr (i 2)) (i 1) (i 3) := by
  funext i
  obtain ⟨z, t, n, d, rfl⟩ : ∃ (z : Fin 1) (t : Fin 2048) (n : Fin 32) (d : Fin 128), i = ix4 z t n d := ⟨_, _, _, _, eq_ix4 i⟩
  obtain rfl : z = 0 := Subsingleton.elim _ _
  unfold Pipeline.afterTail₀
  refine (tail30 _ n t d).trans ?_
  have e := congrFun (Pipeline.withArrays_arr spec0 arr_inj c (V0 m c) (fun w => (Hand.dats m 0 c).arrAt w cfg0.N) 11) (ix4 t (kh n) (gr n) d)
  refine Eq.trans e ?_
  rw [final11 m c]
  rfl

/-- The second result: the key gradient. -/
theorem res32 : (Pipeline.afterTail₀ cfgs (Hand.dats m) 0 (V0 m) [hostOps1] c main_v32)
    = fun i : S1x2048x8x128.Idx => (arrs m c).dk (i 2) (i 1) (i 3) := by
  funext i
  obtain ⟨z, t, h, d, rfl⟩ : ∃ (z : Fin 1) (t : Fin 2048) (h : Fin 8) (d : Fin 128), i = ix4 z t h d := ⟨_, _, _, _, eq_ix4 i⟩
  obtain rfl : z = 0 := Subsingleton.elim _ _
  unfold Pipeline.afterTail₀
  refine (tail32 _ h t d).trans ?_
  have e := congrFun (Pipeline.withArrays_arr spec0 arr_inj c (V0 m c) (fun w => (Hand.dats m 0 c).arrAt w cfg0.N) 12) (ix3 h t d)
  refine Eq.trans e ?_
  rw [final12 m c]
  rfl

/-- The third result: the value gradient. -/
theorem res34 : (Pipeline.afterTail₀ cfgs (Hand.dats m) 0 (V0 m) [hostOps1] c main_v34)
    = fun i : S1x2048x8x128.Idx => (arrs m c).dv (i 2) (i 1) (i 3) := by
  funext i
  obtain ⟨z, t, h, d, rfl⟩ : ∃ (z : Fin 1) (t : Fin 2048) (h : Fin 8) (d : Fin 128), i = ix4 z t h d := ⟨_, _, _, _, eq_ix4 i⟩
  obtain rfl : z = 0 := Subsingleton.elim _ _
  unfold Pipeline.afterTail₀
  refine (tail34 _ h t d).trans ?_
  have e := congrFun (Pipeline.withArrays_arr spec0 arr_inj c (V0 m c) (fun w => (Hand.dats m 0 c).arrAt w cfg0.N) 13) (ix3 h t d)
  refine Eq.trans e ?_
  rw [final13 m c]
  rfl

end Results

end Cert.Value
-- ==== Proof.Value.Ref.lean ====
/- The host lines of the reference, at one index. -/
module

public import proofs.«01_k».proof.Proof.Value.Heads
public import proofs.«01_k».proof.Proof.Gen.ReferenceIdeal.Frame
public import Idealize.ShloMosaic.Lib.StableHlo.ReadAt
public import Idealize.ShloMosaic.Lib.Pipeline.ValueKit.Point

@[expose] public section

set_option maxRecDepth 65536
set_option maxHeartbeats 4000000

noncomputable section

namespace Cert.Value.Ref

open Cert.ReferenceIdeal Cert.ReferenceIdeal.Gen
open Idealize.ShloMosaic
open scoped BigOperators

section

variable (W : Valuation τ sig (Elt Ideal))

/-- The reference's widened arrays and its other arguments by coordinates, as the host lines read them. -/
def arrsW : Arrays where
  q t n d := W (Proc.devRef .tc main_v0_0) (ix4 0 t n d)
  qs n := W (Proc.devRef .tc main_arg1) (ix1 n)
  k t n d := W (Proc.devRef .tc main_v0_1) (ix4 0 t n d)
  ks n := W (Proc.devRef .tc main_arg3) (ix1 n)
  v t n d := W (Proc.devRef .tc main_v0_2) (ix4 0 t n d)
  vs n := W (Proc.devRef .tc main_arg5) (ix1 n)
  o t n d := W (Proc.devRef .tc main_arg6) (ix4 0 t n d)
  lse n t := W (Proc.devRef .tc main_arg7) (ix3 0 n t)
  w t n d := W (Proc.devRef .tc main_v0_3) (ix4 0 t n d)
  ws t := W (Proc.devRef .tc main_arg9) (ix2 0 t)

/-- The buffers after the host lines of the reference. -/
abbrev Z : Valuation τ sig (Elt Ideal) := StableHlo.after (List.flatten [hostOps1, hostOps1_1, hostOps1_2]) W

/-- The reference's masked probability: the score of a key after the query is minus infinity. -/
def pR (A : Arrays) (h : Fin 8) (g : Fin 4) (t s : Fin 2048) : EReal :=
  Ideal.exp (Scalar.select (IntOp.cmpi CmpIPredicate.sle (BitVec.ofNat 32 s.val) (BitVec.ofNat 32 t.val))
    ((∑ e, A.k s h e * A.q t (qh h g) e) * (A.qs (qh h g) * A.ks h * SM)) (id (constant (F := Ideal) S_ .f32 0xFF800000#32) ix0) - A.lse (qh h g) t)

/-- The reference's other factor of the score gradient. -/
def gR (A : Arrays) (h : Fin 8) (g : Fin 4) (t s : Fin 2048) : EReal :=
  (∑ e, A.v s h e * A.w t (qh h g) e) * (A.ws t * A.vs h) - ∑ e, A.w t (qh h g) e * A.ws t * A.o t (qh h g) e

theorem Z_v55 (n : Fin 32) (t : Fin 2048) (d : Fin 128) : (Z W (Proc.devRef .tc main_v55) (ix4 0 t n d) : EReal)
    = (∑ s, (arrsW W).k s (kh n) d * (pR (arrsW W) (kh n) (gr n) t s * gR (arrsW W) (kh n) (gr n) t s)) * ((arrsW W).ks (kh n) * SM) := by
  unfold Z
  after_reads_at
  rfl

theorem Z_v71 (h : Fin 8) (s : Fin 2048) (d : Fin 128) : (Z W (Proc.devRef .tc main_v71) (ix4 0 s h d) : EReal)
    = (∑ g, ∑ t, (arrsW W).q t (qh h g) d * (arrsW W).qs (qh h g) * (pR (arrsW W) h g t s * gR (arrsW W) h g t s)) * SM := by
  unfold Z
  after_reads_at
  rfl

theorem Z_v75 (h : Fin 8) (s : Fin 2048) (d : Fin 128) : (Z W (Proc.devRef .tc main_v75) (ix4 0 s h d) : EReal)
    = ∑ g, ∑ t, (arrsW W).w t (qh h g) d * (arrsW W).ws t * pR (arrsW W) h g t s := by
  unfold Z
  after_reads_at
  rfl

theorem pR_eq (A : Arrays) (h : Fin 8) (g : Fin 4) (t s : Fin 2048) : pR A h g t s = A.lS h g t s := by
  unfold pR Arrays.lS Arrays.pS
  have hc : IntOp.cmpi CmpIPredicate.sle (BitVec.ofNat 32 s.val) (BitVec.ofNat 32 t.val) = if s.val ≤ t.val then 1#1 else 0#1 := by
    rw [WordCmp.cmpi_sle_ofNat (by omega) (by omega)]
    by_cases hs : s.val ≤ t.val
    · rw [if_pos hs, decide_eq_true hs]; rfl
    · rw [if_neg hs, decide_eq_false hs]; rfl
  rw [hc]
  by_cases hs : s.val ≤ t.val
  · rw [if_pos hs, if_pos hs]
    simp only [mul_comm (A.k s h _)]
    rfl
  · rw [if_neg hs, if_neg hs]
    show Ideal.exp (Ideal.ofBits .f32 0xFF800000#32 - A.lse (qh h g) t) = 0
    rw [ofBits_ninf, bot_sub]
    rfl

theorem gR_eq (A : Arrays) (hA : ∀ t, 0 ≤ A.ws t ∧ A.ws t ≠ ⊤) (h : Fin 8) (g : Fin 4) (t s : Fin 2048) : gR A h g t s = A.gS h g t s := by
  unfold gR Arrays.gS
  rw [delta_eq (A.ws t) (fun e => A.w t (qh h g) e) (fun e => A.o t (qh h g) e) (hA t).1 (hA t).2]
  simp only [mul_comm (A.v s h _)]

end

end Cert.Value.Ref
-- ==== Proof.Value.Ref2.lean ====
/- The three results of the reference, in terms of the argument arrays. -/
module

public import proofs.«01_k».proof.Proof.Value.Ref
public import Idealize.ShloMosaic.Lib.Pipeline.ValueKit.Geometry

@[expose] public section

set_option maxRecDepth 65536
set_option maxHeartbeats 4000000

noncomputable section

namespace Cert.Value.Ref

open Cert.ReferenceIdeal Cert.ReferenceIdeal.Gen
open Idealize.ShloMosaic
open scoped BigOperators

section

variable (m : (b : Loc nD τ sig) → Buf (Elt Ideal) b) (c : Dev nD)

/-- The reference's argument arrays by coordinates. -/
def arrs : Arrays where
  q t n d := m (c.tc.loc main_arg0) (ix4 0 t n d)
  qs n := m (c.tc.loc main_arg1) (ix1 n)
  k t n d := m (c.tc.loc main_arg2) (ix4 0 t n d)
  ks n := m (c.tc.loc main_arg3) (ix1 n)
  v t n d := m (c.tc.loc main_arg4) (ix4 0 t n d)
  vs n := m (c.tc.loc main_arg5) (ix1 n)
  o t n d := m (c.tc.loc main_arg6) (ix4 0 t n d)
  lse n t := m (c.tc.loc main_arg7) (ix3 0 n t)
  w t n d := m (c.tc.loc main_arg8) (ix4 0 t n d)
  ws t := m (c.tc.loc main_arg9) (ix2 0 t)

theorem hz : (![0, 0, 0, 0] : Fin 4 → Nat) = fun _ => 0 := funext fun a => by fin_cases a <;> rfl

theorem idx0 : ∀ p : Fin cfg0.N, win0_0.index p = ![0, 0, 0, 0] := (by decide +kernel : ∀ p : Fin grid0.N, win0_0.index p = ![0, 0, 0, 0])
theorem idx4 : ∀ p : Fin cfg0.N, win0_4.index p = ![0, 0, 0, 0] := (by decide +kernel : ∀ p : Fin grid0.N, win0_4.index p = ![0, 0, 0, 0])

/-- The widened query is the query. -/
theorem final4 : (dats m 0 c).arrAt 4 cfg0.N = fun i : S1x2048x32x128.Idx => m (c.tc.loc main_arg0) i := by
  refine (dats m 0 c).arrAt_eq_of_covers 4 _ (by decide +kernel) fun p hf y => ?_
  blk_simp
  rw [after0_4]
  unfold out0_4
  rw [View.canon_unit_zero hz]
  unfold k0_pay1
  rw [View.ld_unit_zero (S := S1x2048x32x128) hz]
  show View.read (Elt Ideal) ((cfg0.win 0).blk p).view (V m c (Pipeline.arrRef spec0 0)) y = _
  rw [View.read_apply]
  refine congrArg (m (c.tc.loc main_arg0)) ?_
  blk_ext [idx0 p, idx4 p]

theorem idx1 : ∀ p : Fin cfg0.N, win0_1.index p = ![0, 0, 0, 0] := (by decide +kernel : ∀ p : Fin grid0.N, win0_1.index p = ![0, 0, 0, 0])
theorem idx5 : ∀ p : Fin cfg0.N, win0_5.index p = ![0, 0, 0, 0] := (by decide +kernel : ∀ p : Fin grid0.N, win0_5.index p = ![0, 0, 0, 0])

/-- The widened key is the key. -/
theorem final5 : (dats m 0 c).arrAt 5 cfg0.N = fun i : S1x2048x8x128.Idx => m (c.tc.loc main_arg2) i := by
  refine (dats m 0 c).arrAt_eq_of_covers 5 _ (by decide +kernel) fun p hf y => ?_
  blk_simp
  rw [after0_5]
  unfold out0_5
  rw [View.canon_unit_zero hz]
  unfold k0_pay2
  rw [View.ld_unit_zero (S := S1x2048x8x128) hz]
  show View.read (Elt Ideal) ((cfg0.win 1).blk p).view (V m c (Pipeline.arrRef spec0 1)) y = _
  rw [View.read_apply]
  refine congrArg (m (c.tc.loc main_arg2)) ?_
  blk_ext [idx1 p, idx5 p]

theorem idx2 : ∀ p : Fin cfg0.N, win0_2.index p = ![0, 0, 0, 0] := (by decide +kernel : ∀ p : Fin grid0.N, win0_2.index p = ![0, 0, 0, 0])
theorem idx6 : ∀ p : Fin cfg0.N, win0_6.index p = ![0, 0, 0, 0] := (by decide +kernel : ∀ p : Fin grid0.N, win0_6.index p = ![0, 0, 0, 0])

/-- The widened value is the value. -/
theorem final6 : (dats m 0 c).arrAt 6 cfg0.N = fun i : S1x2048x8x128.Idx => m (c.tc.loc main_arg4) i := by
  refine (dats m 0 c).arrAt_eq_of_covers 6 _ (by decide +kernel) fun p hf y => ?_
  blk_simp
  rw [after0_6]
  unfold out0_6
  rw [View.canon_unit_zero hz]
  unfold k0_pay3
  rw [View.ld_unit_zero (S := S1x2048x8x128) hz]
  show View.read (Elt Ideal) ((cfg0.win 2).blk p).view (V m c (Pipeline.arrRef spec0 2)) y = _
  rw [View.read_apply]
  refine congrArg (m (c.tc.loc main_arg4)) ?_
  blk_ext [idx2 p, idx6 p]

theorem idx3 : ∀ p : Fin cfg0.N, win0_3.index p = ![0, 0, 0, 0] := (by decide +kernel : ∀ p : Fin grid0.N, win0_3.index p = ![0, 0, 0, 0])
theorem idx7 : ∀ p : Fin cfg0.N, win0_7.index p = ![0, 0, 0, 0] := (by decide +kernel : ∀ p : Fin grid0.N, win0_7.index p = ![0, 0, 0, 0])

/-- The widened output gradient is the output gradient. -/
theorem final7 : (dats m 0 c).arrAt 7 cfg0.N = fun i : S1x2048x32x128.Idx => m (c.tc.loc main_arg8) i := by
  refine (dats m 0 c).arrAt_eq_of_covers 7 _ (by decide +kernel) fun p hf y => ?_
  blk_simp
  rw [after0_7]
  unfold out0_7
  rw [View.canon_unit_zero hz]
  unfold k0_pay4
  rw [View.ld_unit_zero (S := S1x2048x32x128) hz]
  show View.read (Elt Ideal) ((cfg0.win 3).blk p).view (V m c (Pipeline.arrRef spec0 3)) y = _
  rw [View.read_apply]
  refine congrArg (m (c.tc.loc main_arg8)) ?_
  blk_ext [idx3 p, idx7 p]

theorem arr_inj : Function.Injective (Pipeline.arrRef spec0) := by decide +kernel

/-- The buffers the host lines start from. -/
abbrev W₀ : Valuation τ sig (Elt Ideal) := Pipeline.withArrays spec0 c (V0 m c) fun w => (dats m 0 c).arrAt w cfg0.N

theorem arrsW_eq : arrsW (W₀ m c) = arrs m c := by
  have h4 : W₀ m c (Proc.devRef .tc main_v0_0) = _ := (Pipeline.withArrays_arr spec0 arr_inj c _ _ 4).trans (final4 m c)
  have h5 : W₀ m c (Proc.devRef .tc main_v0_1) = _ := (Pipeline.withArrays_arr spec0 arr_inj c _ _ 5).trans (final5 m c)
  have h6 : W₀ m c (Proc.devRef .tc main_v0_2) = _ := (Pipeline.withArrays_arr spec0 arr_inj c _ _ 6).trans (final6 m c)
  have h7 : W₀ m c (Proc.devRef .tc main_v0_3) = _ := (Pipeline.withArrays_arr spec0 arr_inj c _ _ 7).trans (final7 m c)
  have k (b : Ref sig .tc) (hb : ∀ w, Pipeline.arrRef spec0 w ≠ b) : W₀ m c (Proc.devRef .tc b) = m (c.tc.loc b) := Pipeline.withArrays_of_ne _ c (V0 m c) _ b hb
  unfold arrsW arrs
  rw [h4, h5, h6, h7, k main_arg1 (by decide), k main_arg3 (by decide), k main_arg5 (by decide), k main_arg6 (by decide), k main_arg7 (by decide), k main_arg9 (by decide)]

variable (hA : ∀ t, 0 ≤ (arrs m c).ws t ∧ (arrs m c).ws t ≠ ⊤)

include hA

/-- The first result: the query gradient. -/
theorem res55 : (Pipeline.afterTail₀ cfgs (dats m) 0 (V0 m) [hostOps1, hostOps1_1, hostOps1_2] c main_v55)
    = fun i : S1x2048x32x128.Idx => (arrs m c).dq (kh (i 2)) (gr (i 2)) (i 1) (i 3) := by
  funext i
  obtain ⟨z, t, n, d, rfl⟩ : ∃ (z : Fin 1) (t : Fin 2048) (n : Fin 32) (d : Fin 128), i = ix4 z t n d := ⟨_, _, _, _, eq_ix4 i⟩
  obtain rfl : z = 0 := Subsingleton.elim _ _
  unfold Pipeline.afterTail₀
  refine (Z_v55 (W₀ m c) n t d).trans ?_
  rw [arrsW_eq]
  simp only [pR_eq, gR_eq _ hA]
  rfl

/-- The second result: the key gradient. -/
theorem res71 : (Pipeline.afterTail₀ cfgs (dats m) 0 (V0 m) [hostOps1, hostOps1_1, hostOps1_2] c main_v71)
    = fun i : S1x2048x8x128.Idx => (arrs m c).dk (i 2) (i 1) (i 3) := by
  funext i
  obtain ⟨z, t, h, d, rfl⟩ : ∃ (z : Fin 1) (t : Fin 2048) (h : Fin 8) (d : Fin 128), i = ix4 z t h d := ⟨_, _, _, _, eq_ix4 i⟩
  obtain rfl : z = 0 := Subsingleton.elim _ _
  unfold Pipeline.afterTail₀
  refine (Z_v71 (W₀ m c) h t d).trans ?_
  rw [arrsW_eq]
  simp only [pR_eq, gR_eq _ hA]
  rfl

omit hA in
/-- The third result: the value gradient. -/
theorem res75 : (Pipeline.afterTail₀ cfgs (dats m) 0 (V0 m) [hostOps1, hostOps1_1, hostOps1_2] c main_v75)
    = fun i : S1x2048x8x128.Idx => (arrs m c).dv (i 2) (i 1) (i 3) := by
  funext i
  obtain ⟨z, t, h, d, rfl⟩ : ∃ (z : Fin 1) (t : Fin 2048) (h : Fin 8) (d : Fin 128), i = ix4 z t h d := ⟨_, _, _, _, eq_ix4 i⟩
  obtain rfl : z = 0 := Subsingleton.elim _ _
  unfold Pipeline.afterTail₀
  refine (Z_v75 (W₀ m c) h t d).trans ?_
  rw [arrsW_eq]
  simp only [pR_eq]
  rfl

end

end Cert.Value.Ref
-- ==== Proof.Value.Final.lean ====
/- The claim on the values: the precondition read, and the two programs put side by side. -/
module

public import proofs.«01_k».proof.Defs
public import proofs.«01_k».proof.Proof.Value.Host4
public import proofs.«01_k».proof.Proof.Value.Ref2
public import Idealize.ShloMosaic.Lib.ReduceAll
public import Idealize.ShloMosaic.Lib.Claim

@[expose] public section

set_option maxRecDepth 16384

noncomputable section

namespace Cert.Proof

open Idealize.ShloMosaic Idealize.SL.Sem
open Cert.Value (kh gr)

/-- The shape relations of the precondition's operations. -/
theorem pre_facts : Cert.Pre_scales_finite.Facts where
  bcast_S_S1x2048 := by decide
  reducesTo_S1x2048_S_d0_1 := by decide
  h_S_ := by decide

theorem ofBits_inf : Ideal.ofBits .f32 0x7F800000#32 = ⊤ := by
  simp [Ideal.ofBits, Ideal.ieee]

/-- What the precondition says of the scales: each is nonnegative and finite. -/
theorem scales (m : (ℓ : Loc Cert.KernelIdeal.nD Cert.KernelIdeal.τ Cert.KernelIdeal.sig) → Buf (Elt Ideal) ℓ)
    (h : Cert.Pre_KernelIdeal_scales_finite (hPre_scales_finite := pre_facts) m) (c : Dev Cert.KernelIdeal.nD) (t : Fin 2048) :
    0 ≤ (Cert.Value.arrs m c).ws t ∧ (Cert.Value.arrs m c).ws t ≠ ⊤ := by
  have e := congrFun (h c) (fun a => a.elim0)
  dsimp only [Cert.Pre_scales_finite.fn] at e
  have : Subsingleton Cert.Pre_scales_finite.S_.Idx := ⟨fun a b => funext fun i => i.elim0⟩
  have e2 := Host.reduce_andi_all _ _ _ _ _ e (ix2 0 t)
  obtain ⟨h0, h1⟩ := IntOp.andi_eq_one.1 e2
  change Ideal.cmp .oge ((Cert.Value.arrs m c).ws t) (Ideal.ofBits .f32 0x00000000#32) = 1#1 at h0
  change Ideal.cmp .olt ((Cert.Value.arrs m c).ws t) (Ideal.ofBits .f32 0x7F800000#32) = 1#1 at h1
  rw [Ideal.ofBits_zero_f32] at h0
  rw [ofBits_inf] at h1
  simp only [Ideal.cmp] at h0 h1
  constructor
  · by_contra hn; simp [hn] at h0
  · intro hn; simp [hn] at h1

/-- The kernel's frame under the precondition. -/
theorem frame_pi_pre : Cert.quiescent_KernelIdeal_pre_scales_finite (hKernelIdeal := Cert.KernelIdeal.Gen.facts) (hPre_scales_finite := pre_facts) :=
  fun m g _ => Cert.KernelIdeal.Hand.frame m g

/-- The reference's frame under the precondition. -/
theorem frame_ri_pre : Cert.quiescent_ReferenceIdeal_pre_scales_finite (hReferenceIdeal := Cert.ReferenceIdeal.Gen.facts) (hPre_scales_finite := pre_facts) :=
  fun m g _ => Cert.ReferenceIdeal.Gen.frame m g

/-- Kernel and reference, each idealized, end with the same three gradients. -/
theorem algebraic : Cert.algebraic_KernelIdeal_ReferenceIdeal_pre_scales_finite (hKernelIdeal := Cert.KernelIdeal.Gen.facts)
    (hReferenceIdeal := Cert.ReferenceIdeal.Gen.facts) (hPre_scales_finite := pre_facts) := by
  intro m g m' g' hpre hagree
  have hA : ∀ c, Cert.Value.Ref.arrs m' c = Cert.Value.arrs m c := fun c => by
    obtain ⟨h0, h1, h2, h3, h4, h5, h6, h7, h8, h9⟩ := hagree c
    unfold Cert.Value.Ref.arrs Cert.Value.arrs
    rw [h0, h1, h2, h3, h4, h5, h6, h7, h8, h9]
  refine ⟨fun c => fun i : Cert.KernelIdeal.S1x2048x32x128.Idx => (Cert.Value.arrs m c).dq (kh (i 2)) (gr (i 2)) (i 1) (i 3),
    fun c => fun i : Cert.KernelIdeal.S1x2048x8x128.Idx => (Cert.Value.arrs m c).dk (i 2) (i 1) (i 3),
    fun c => fun i : Cert.KernelIdeal.S1x2048x8x128.Idx => (Cert.Value.arrs m c).dv (i 2) (i 1) (i 3), ?_, ?_⟩
  · refine θ_run_mono (θ_run_and (Cert.KernelIdeal.Hand.run_main m g) (Cert.KernelIdeal.Hand.unchanged m g)) fun r hr c => ?_
    have rest := (hr.1 c).2
    exact ⟨(rest Cert.KernelIdeal.main_v30 (Pipeline.mem_restRefs_of _ (by decide) (by decide))).trans (Cert.Value.res30 m c),
      (rest Cert.KernelIdeal.main_v32 (Pipeline.mem_restRefs_of _ (by decide) (by decide))).trans (Cert.Value.res32 m c),
      (rest Cert.KernelIdeal.main_v34 (Pipeline.mem_restRefs_of _ (by decide) (by decide))).trans (Cert.Value.res34 m c), hr.2 c⟩
  · refine θ_run_mono (θ_run_and (Cert.ReferenceIdeal.Gen.run_main m' g') (Cert.ReferenceIdeal.Gen.unchanged m' g')) fun r hr c => ?_
    have rest := (hr.1 c).2
    have hs : ∀ t, 0 ≤ (Cert.Value.Ref.arrs m' c).ws t ∧ (Cert.Value.Ref.arrs m' c).ws t ≠ ⊤ := by
      rw [hA c]; exact scales m hpre c
    beta_reduce
    rw [← hA c]
    exact ⟨(rest Cert.ReferenceIdeal.main_v55 (Pipeline.mem_restRefs_of _ (by decide) (by decide))).trans (Cert.Value.Ref.res55 m' c hs),
      (rest Cert.ReferenceIdeal.main_v71 (Pipeline.mem_restRefs_of _ (by decide) (by decide))).trans (Cert.Value.Ref.res71 m' c hs),
      (rest Cert.ReferenceIdeal.main_v75 (Pipeline.mem_restRefs_of _ (by decide) (by decide))).trans (Cert.Value.Ref.res75 m' c), hr.2 c⟩

end Cert.Proof

end
-- ==== Proof.lean ====
module

public import proofs.«01_k».proof.Defs
public import proofs.«01_k».proof.Proof.Claims
public import proofs.«01_k».proof.Proof.Value.Final
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, pre_facts,
    frame_p, frame_pi, frame_pi_pre, frame_ri, frame_ri_pre, preserves, algebraic⟩

end Cert.Proof

end
